-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![32, 1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S31x32x1024 : Shape := ⟨3, ![31, 32, 1024]⟩
abbrev S31 : Shape := ⟨1, ![31]⟩
abbrev S_ : Shape := ⟨0, ![]⟩
abbrev S1 : Shape := ⟨1, ![1]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024, .f32⟩
  | .local _ .vmem, ⟨3, _⟩ => ⟨S1024x1024, .f32⟩
  | .local _ .vmem, ⟨4, _⟩ => ⟨S31x32x1024, .f32⟩
  | .local _ .vmem, ⟨5, _⟩ => ⟨S31x32x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_6 : BitVec 32 := 32#32
  let v14 : BitVec 32 := Scalar.addi v2 c32_i32_6
  let c1_i32_7 : BitVec 32 := 1#32
  let v15 : BitVec 32 := Scalar.subi v14 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_15 : BitVec 32 := 1#32
  let v27 : BitVec 32 := Scalar.muli v25 c1_i32_15
  let v28 : BitVec 32 := Scalar.addi c0_i32_16 v27
  v28.toNat
def k0_off1 (d0 : Dev nD) : Fin 3 → Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_18 : BitVec 32 := 0#32
  let v29 : BitVec 32 := Scalar.subi v2 c0_i32_18
  let c32_i32_19 : BitVec 32 := 32#32
  let c0_i32_20 : BitVec 32 := 0#32
  let v30 : BitVec 1 := Scalar.cmpi .eq c32_i32_19 c0_i32_20
  let c1_i32_21 : BitVec 32 := 1#32
  let v31 : BitVec 32 := Scalar.select v30 c1_i32_21 c32_i32_19
  let v32 : BitVec 32 := Scalar.remsi v29 v31
  let c0_i32_23 : BitVec 32 := 0#32
  let v34 : BitVec 1 := Scalar.cmpi .slt v32 c0_i32_23
  let c0_i32_24 : BitVec 32 := 0#32
  let v35 : BitVec 1 := Scalar.cmpi .slt v31 c0_i32_24
  let v36 : BitVec 1 := Scalar.xori v34 v35
  let c0_i32_22 : BitVec 32 := 0#32
  let v33 : BitVec 1 := Scalar.cmpi .ne v32 c0_i32_22
  let v37 : BitVec 1 := Scalar.andi v36 v33
  let v38 : BitVec 32 := Scalar.addi v32 v31
  let v39 : BitVec 32 := Scalar.select v37 v38 v32
  let c32_i32_25 : BitVec 32 := 32#32
  let v40 : BitVec 32 := Scalar.muli v39 c32_i32_25
  let c0_i32_34 : BitVec 32 := 0#32
  ![0, v40.toNat, 0]
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_30 : BitVec 32 := 1#32
  let v41 : BitVec 32 := Scalar.muli v13 c1_i32_30
  let v42 : BitVec 32 := Scalar.addi c0_i32_31 v41
  v42.toNat
def k0_off2 (d0 : Dev nD) (c1_i32_52 : BitVec 32) : Fin 3 → Nat :=
  let c0_62 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v65 : BitVec 32 := Scalar.subi v2 c1_i32_52
  let c32_i32_53 : BitVec 32 := 32#32
  let c0_i32_54 : BitVec 32 := 0#32
  let v66 : BitVec 1 := Scalar.cmpi .eq c32_i32_53 c0_i32_54
  let c1_i32_55 : BitVec 32 := 1#32
  let v67 : BitVec 32 := Scalar.select v66 c1_i32_55 c32_i32_53
  let v68 : BitVec 32 := Scalar.remsi v65 v67
  let c0_i32_57 : BitVec 32 := 0#32
  let v70 : BitVec 1 := Scalar.cmpi .slt v68 c0_i32_57
  let c0_i32_58 : BitVec 32 := 0#32
  let v71 : BitVec 1 := Scalar.cmpi .slt v67 c0_i32_58
  let v72 : BitVec 1 := Scalar.xori v70 v71
  let c0_i32_56 : BitVec 32 := 0#32
  let v69 : BitVec 1 := Scalar.cmpi .ne v68 c0_i32_56
  let v73 : BitVec 1 := Scalar.andi v72 v69
  let v74 : BitVec 32 := Scalar.addi v68 v67
  let v75 : BitVec 32 := Scalar.select v73 v74 v68
  let c32_i32_61 : BitVec 32 := 32#32
  let v78 : BitVec 32 := Scalar.muli v75 c32_i32_61
  let v79 : Index := Scalar.indexCast v78
  let c0_63 : Index := 0#32
  ![0, v79.toNat, 0]
def k0_dev3 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_70 : BitVec 32 := 1#32
  let v86 : BitVec 32 := Scalar.muli v13 c1_i32_70
  let v87 : BitVec 32 := Scalar.addi c0_i32_71 v86
  v87.toNat
def k0_dev4 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_113 : BitVec 32 := 1#32
  let v131 : BitVec 32 := Scalar.muli v13 c1_i32_113
  let v132 : BitVec 32 := Scalar.addi c0_i32_114 v131
  v132.toNat
def k0_dev5 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_156 : BitVec 32 := 1#32
  let v176 : BitVec 32 := Scalar.muli v13 c1_i32_156
  let v177 : BitVec 32 := Scalar.addi c0_i32_157 v176
  v177.toNat
def k0_dev6 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_199 : BitVec 32 := 1#32
  let v221 : BitVec 32 := Scalar.muli v13 c1_i32_199
  let v222 : BitVec 32 := Scalar.addi c0_i32_200 v221
  v222.toNat
def k0_dev7 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_242 : BitVec 32 := 1#32
  let v266 : BitVec 32 := Scalar.muli v13 c1_i32_242
  let v267 : BitVec 32 := Scalar.addi c0_i32_243 v266
  v267.toNat
def k0_dev8 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_285 : BitVec 32 := 1#32
  let v311 : BitVec 32 := Scalar.muli v13 c1_i32_285
  let v312 : BitVec 32 := Scalar.addi c0_i32_286 v311
  v312.toNat
def k0_dev9 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_328 : BitVec 32 := 1#32
  let v356 : BitVec 32 := Scalar.muli v13 c1_i32_328
  let v357 : BitVec 32 := Scalar.addi c0_i32_329 v356
  v357.toNat
def k0_dev10 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_371 : BitVec 32 := 1#32
  let v401 : BitVec 32 := Scalar.muli v13 c1_i32_371
  let v402 : BitVec 32 := Scalar.addi c0_i32_372 v401
  v402.toNat
def k0_dev11 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_414 : BitVec 32 := 1#32
  let v446 : BitVec 32 := Scalar.muli v13 c1_i32_414
  let v447 : BitVec 32 := Scalar.addi c0_i32_415 v446
  v447.toNat
def k0_dev12 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_457 : BitVec 32 := 1#32
  let v491 : BitVec 32 := Scalar.muli v13 c1_i32_457
  let v492 : BitVec 32 := Scalar.addi c0_i32_458 v491
  v492.toNat
def k0_dev13 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_500 : BitVec 32 := 1#32
  let v536 : BitVec 32 := Scalar.muli v13 c1_i32_500
  let v537 : BitVec 32 := Scalar.addi c0_i32_501 v536
  v537.toNat
def k0_dev14 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_543 : BitVec 32 := 1#32
  let v581 : BitVec 32 := Scalar.muli v13 c1_i32_543
  let v582 : BitVec 32 := Scalar.addi c0_i32_544 v581
  v582.toNat
def k0_dev15 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_586 : BitVec 32 := 1#32
  let v626 : BitVec 32 := Scalar.muli v13 c1_i32_586
  let v627 : BitVec 32 := Scalar.addi c0_i32_587 v626
  v627.toNat
def k0_dev16 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_629 : BitVec 32 := 1#32
  let v671 : BitVec 32 := Scalar.muli v13 c1_i32_629
  let v672 : BitVec 32 := Scalar.addi c0_i32_630 v671
  v672.toNat
def k0_dev17 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_672 : BitVec 32 := 1#32
  let v716 : BitVec 32 := Scalar.muli v13 c1_i32_672
  let v717 : BitVec 32 := Scalar.addi c0_i32_673 v716
  v717.toNat
def k0_dev18 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_715 : BitVec 32 := 1#32
  let v761 : BitVec 32 := Scalar.muli v13 c1_i32_715
  let v762 : BitVec 32 := Scalar.addi c0_i32_716 v761
  v762.toNat
def k0_dev19 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_758 : BitVec 32 := 1#32
  let v806 : BitVec 32 := Scalar.muli v13 c1_i32_758
  let v807 : BitVec 32 := Scalar.addi c0_i32_759 v806
  v807.toNat
def k0_dev20 (d0 : Dev nD) : Nat :=
  let c0_i32_802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_801 : BitVec 32 := 1#32
  let v851 : BitVec 32 := Scalar.muli v13 c1_i32_801
  let v852 : BitVec 32 := Scalar.addi c0_i32_802 v851
  v852.toNat
def k0_dev21 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_844 : BitVec 32 := 1#32
  let v896 : BitVec 32 := Scalar.muli v13 c1_i32_844
  let v897 : BitVec 32 := Scalar.addi c0_i32_845 v896
  v897.toNat
def k0_dev22 (d0 : Dev nD) : Nat :=
  let c0_i32_888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_887 : BitVec 32 := 1#32
  let v941 : BitVec 32 := Scalar.muli v13 c1_i32_887
  let v942 : BitVec 32 := Scalar.addi c0_i32_888 v941
  v942.toNat
def k0_dev23 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_930 : BitVec 32 := 1#32
  let v986 : BitVec 32 := Scalar.muli v13 c1_i32_930
  let v987 : BitVec 32 := Scalar.addi c0_i32_931 v986
  v987.toNat
def k0_dev24 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_973 : BitVec 32 := 1#32
  let v1031 : BitVec 32 := Scalar.muli v13 c1_i32_973
  let v1032 : BitVec 32 := Scalar.addi c0_i32_974 v1031
  v1032.toNat
def k0_dev25 (d0 : Dev nD) : Nat :=
  let c0_i32_1017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1016 : BitVec 32 := 1#32
  let v1076 : BitVec 32 := Scalar.muli v13 c1_i32_1016
  let v1077 : BitVec 32 := Scalar.addi c0_i32_1017 v1076
  v1077.toNat
def k0_dev26 (d0 : Dev nD) : Nat :=
  let c0_i32_1060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1059 : BitVec 32 := 1#32
  let v1121 : BitVec 32 := Scalar.muli v13 c1_i32_1059
  let v1122 : BitVec 32 := Scalar.addi c0_i32_1060 v1121
  v1122.toNat
def k0_dev27 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1102 : BitVec 32 := 1#32
  let v1166 : BitVec 32 := Scalar.muli v13 c1_i32_1102
  let v1167 : BitVec 32 := Scalar.addi c0_i32_1103 v1166
  v1167.toNat
def k0_dev28 (d0 : Dev nD) : Nat :=
  let c0_i32_1146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1145 : BitVec 32 := 1#32
  let v1211 : BitVec 32 := Scalar.muli v13 c1_i32_1145
  let v1212 : BitVec 32 := Scalar.addi c0_i32_1146 v1211
  v1212.toNat
def k0_dev29 (d0 : Dev nD) : Nat :=
  let c0_i32_1189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1188 : BitVec 32 := 1#32
  let v1256 : BitVec 32 := Scalar.muli v13 c1_i32_1188
  let v1257 : BitVec 32 := Scalar.addi c0_i32_1189 v1256
  v1257.toNat
def k0_dev30 (d0 : Dev nD) : Nat :=
  let c0_i32_1232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1231 : BitVec 32 := 1#32
  let v1301 : BitVec 32 := Scalar.muli v13 c1_i32_1231
  let v1302 : BitVec 32 := Scalar.addi c0_i32_1232 v1301
  v1302.toNat
def k0_dev31 (d0 : Dev nD) : Nat :=
  let c0_i32_1275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1274 : BitVec 32 := 1#32
  let v1346 : BitVec 32 := Scalar.muli v13 c1_i32_1274
  let v1347 : BitVec 32 := Scalar.addi c0_i32_1275 v1346
  v1347.toNat
def k0_dev32 (d0 : Dev nD) : Nat :=
  let c0_i32_1318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1317 : BitVec 32 := 1#32
  let v1391 : BitVec 32 := Scalar.muli v13 c1_i32_1317
  let v1392 : BitVec 32 := Scalar.addi c0_i32_1318 v1391
  v1392.toNat
def k0_off3 (d0 : Dev nD) : Fin 3 → Nat :=
  let c0_1353 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1342 : BitVec 32 := 1#32
  let v1415 : BitVec 32 := Scalar.addi v2 c1_i32_1342
  let c32_i32_1343 : BitVec 32 := 32#32
  let c0_i32_1344 : BitVec 32 := 0#32
  let v1416 : BitVec 1 := Scalar.cmpi .eq c32_i32_1343 c0_i32_1344
  let c1_i32_1345 : BitVec 32 := 1#32
  let v1417 : BitVec 32 := Scalar.select v1416 c1_i32_1345 c32_i32_1343
  let v1418 : BitVec 32 := Scalar.remsi v1415 v1417
  let c0_i32_1347 : BitVec 32 := 0#32
  let v1420 : BitVec 1 := Scalar.cmpi .slt v1418 c0_i32_1347
  let c0_i32_1348 : BitVec 32 := 0#32
  let v1421 : BitVec 1 := Scalar.cmpi .slt v1417 c0_i32_1348
  let v1422 : BitVec 1 := Scalar.xori v1420 v1421
  let c0_i32_1346 : BitVec 32 := 0#32
  let v1419 : BitVec 1 := Scalar.cmpi .ne v1418 c0_i32_1346
  let v1423 : BitVec 1 := Scalar.andi v1422 v1419
  let v1424 : BitVec 32 := Scalar.addi v1418 v1417
  let v1425 : BitVec 32 := Scalar.select v1423 v1424 v1418
  let c32_i32_1352 : BitVec 32 := 32#32
  let v1428 : BitVec 32 := Scalar.muli v1425 c32_i32_1352
  let v1429 : Index := Scalar.indexCast v1428
  let c0_1354 : Index := 0#32
  ![0, v1429.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1342 : BitVec 32 := 1#32
  let v1415 : BitVec 32 := Scalar.addi v2 c1_i32_1342
  let c32_i32_1343 : BitVec 32 := 32#32
  let c0_i32_1344 : BitVec 32 := 0#32
  let v1416 : BitVec 1 := Scalar.cmpi .eq c32_i32_1343 c0_i32_1344
  let c1_i32_1345 : BitVec 32 := 1#32
  let v1417 : BitVec 32 := Scalar.select v1416 c1_i32_1345 c32_i32_1343
  let v1418 : BitVec 32 := Scalar.remsi v1415 v1417
  let c0_i32_1347 : BitVec 32 := 0#32
  let v1420 : BitVec 1 := Scalar.cmpi .slt v1418 c0_i32_1347
  let c0_i32_1348 : BitVec 32 := 0#32
  let v1421 : BitVec 1 := Scalar.cmpi .slt v1417 c0_i32_1348
  let v1422 : BitVec 1 := Scalar.xori v1420 v1421
  let c0_i32_1346 : BitVec 32 := 0#32
  let v1419 : BitVec 1 := Scalar.cmpi .ne v1418 c0_i32_1346
  let v1423 : BitVec 1 := Scalar.andi v1422 v1419
  let v1424 : BitVec 32 := Scalar.addi v1418 v1417
  let v1425 : BitVec 32 := Scalar.select v1423 v1424 v1418
  let c32_i32_1355 : BitVec 32 := 32#32
  let v1433 : BitVec 32 := Scalar.muli v1425 c32_i32_1355
  let v1434 : Index := Scalar.indexCast v1433
  let c0_1356 : Index := 0#32
  ![v1434.toNat, 0]
def k0_off5 (d0 : Dev nD) (c0_i32_1363 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1362 : BitVec 32 := 1#32
  let v1456 : BitVec 32 := Scalar.addi v2 c1_i32_1362
  let v1457 : BitVec 32 := Scalar.subi v1456 c0_i32_1363
  let c32_i32_1364 : BitVec 32 := 32#32
  let c0_i32_1365 : BitVec 32 := 0#32
  let v1458 : BitVec 1 := Scalar.cmpi .eq c32_i32_1364 c0_i32_1365
  let c1_i32_1366 : BitVec 32 := 1#32
  let v1459 : BitVec 32 := Scalar.select v1458 c1_i32_1366 c32_i32_1364
  let v1460 : BitVec 32 := Scalar.remsi v1457 v1459
  let c0_i32_1368 : BitVec 32 := 0#32
  let v1462 : BitVec 1 := Scalar.cmpi .slt v1460 c0_i32_1368
  let c0_i32_1369 : BitVec 32 := 0#32
  let v1463 : BitVec 1 := Scalar.cmpi .slt v1459 c0_i32_1369
  let v1464 : BitVec 1 := Scalar.xori v1462 v1463
  let c0_i32_1367 : BitVec 32 := 0#32
  let v1461 : BitVec 1 := Scalar.cmpi .ne v1460 c0_i32_1367
  let v1465 : BitVec 1 := Scalar.andi v1464 v1461
  let v1466 : BitVec 32 := Scalar.addi v1460 v1459
  let v1467 : BitVec 32 := Scalar.select v1465 v1466 v1460
  let c32_i32_1371 : BitVec 32 := 32#32
  let v1469 : BitVec 32 := Scalar.muli v1467 c32_i32_1371
  let c0_i32_1376 : BitVec 32 := 0#32
  ![v1469.toNat, 0]
def k0_dev33 (d0 : Dev nD) : Nat :=
  let c0_i32_1375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1374 : BitVec 32 := 1#32
  let v1470 : BitVec 32 := Scalar.muli v13 c1_i32_1374
  let v1471 : BitVec 32 := Scalar.addi c0_i32_1375 v1470
  v1471.toNat
def k0_dev34 (d0 : Dev nD) : Nat :=
  let c0_i32_1402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1401 : BitVec 32 := 1#32
  let v1502 : BitVec 32 := Scalar.muli v13 c1_i32_1401
  let v1503 : BitVec 32 := Scalar.addi c0_i32_1402 v1502
  v1503.toNat
def k0_dev35 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1428 : BitVec 32 := 1#32
  let v1534 : BitVec 32 := Scalar.muli v13 c1_i32_1428
  let v1535 : BitVec 32 := Scalar.addi c0_i32_1429 v1534
  v1535.toNat
def k0_dev36 (d0 : Dev nD) : Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1455 : BitVec 32 := 1#32
  let v1566 : BitVec 32 := Scalar.muli v13 c1_i32_1455
  let v1567 : BitVec 32 := Scalar.addi c0_i32_1456 v1566
  v1567.toNat
def k0_dev37 (d0 : Dev nD) : Nat :=
  let c0_i32_1483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1482 : BitVec 32 := 1#32
  let v1598 : BitVec 32 := Scalar.muli v13 c1_i32_1482
  let v1599 : BitVec 32 := Scalar.addi c0_i32_1483 v1598
  v1599.toNat
def k0_dev38 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1509 : BitVec 32 := 1#32
  let v1630 : BitVec 32 := Scalar.muli v13 c1_i32_1509
  let v1631 : BitVec 32 := Scalar.addi c0_i32_1510 v1630
  v1631.toNat
def k0_dev39 (d0 : Dev nD) : Nat :=
  let c0_i32_1537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1536 : BitVec 32 := 1#32
  let v1662 : BitVec 32 := Scalar.muli v13 c1_i32_1536
  let v1663 : BitVec 32 := Scalar.addi c0_i32_1537 v1662
  v1663.toNat
def k0_dev40 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1563 : BitVec 32 := 1#32
  let v1694 : BitVec 32 := Scalar.muli v13 c1_i32_1563
  let v1695 : BitVec 32 := Scalar.addi c0_i32_1564 v1694
  v1695.toNat
def k0_dev41 (d0 : Dev nD) : Nat :=
  let c0_i32_1591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1590 : BitVec 32 := 1#32
  let v1726 : BitVec 32 := Scalar.muli v13 c1_i32_1590
  let v1727 : BitVec 32 := Scalar.addi c0_i32_1591 v1726
  v1727.toNat
def k0_dev42 (d0 : Dev nD) : Nat :=
  let c0_i32_1618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1617 : BitVec 32 := 1#32
  let v1758 : BitVec 32 := Scalar.muli v13 c1_i32_1617
  let v1759 : BitVec 32 := Scalar.addi c0_i32_1618 v1758
  v1759.toNat
def k0_dev43 (d0 : Dev nD) : Nat :=
  let c0_i32_1645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1644 : BitVec 32 := 1#32
  let v1790 : BitVec 32 := Scalar.muli v13 c1_i32_1644
  let v1791 : BitVec 32 := Scalar.addi c0_i32_1645 v1790
  v1791.toNat
def k0_dev44 (d0 : Dev nD) : Nat :=
  let c0_i32_1672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1671 : BitVec 32 := 1#32
  let v1822 : BitVec 32 := Scalar.muli v13 c1_i32_1671
  let v1823 : BitVec 32 := Scalar.addi c0_i32_1672 v1822
  v1823.toNat
def k0_dev45 (d0 : Dev nD) : Nat :=
  let c0_i32_1699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1698 : BitVec 32 := 1#32
  let v1854 : BitVec 32 := Scalar.muli v13 c1_i32_1698
  let v1855 : BitVec 32 := Scalar.addi c0_i32_1699 v1854
  v1855.toNat
def k0_dev46 (d0 : Dev nD) : Nat :=
  let c0_i32_1726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1725 : BitVec 32 := 1#32
  let v1886 : BitVec 32 := Scalar.muli v13 c1_i32_1725
  let v1887 : BitVec 32 := Scalar.addi c0_i32_1726 v1886
  v1887.toNat
def k0_dev47 (d0 : Dev nD) : Nat :=
  let c0_i32_1753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1752 : BitVec 32 := 1#32
  let v1918 : BitVec 32 := Scalar.muli v13 c1_i32_1752
  let v1919 : BitVec 32 := Scalar.addi c0_i32_1753 v1918
  v1919.toNat
def k0_dev48 (d0 : Dev nD) : Nat :=
  let c0_i32_1780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1779 : BitVec 32 := 1#32
  let v1950 : BitVec 32 := Scalar.muli v13 c1_i32_1779
  let v1951 : BitVec 32 := Scalar.addi c0_i32_1780 v1950
  v1951.toNat
def k0_dev49 (d0 : Dev nD) : Nat :=
  let c0_i32_1807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1806 : BitVec 32 := 1#32
  let v1982 : BitVec 32 := Scalar.muli v13 c1_i32_1806
  let v1983 : BitVec 32 := Scalar.addi c0_i32_1807 v1982
  v1983.toNat
def k0_dev50 (d0 : Dev nD) : Nat :=
  let c0_i32_1834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1833 : BitVec 32 := 1#32
  let v2014 : BitVec 32 := Scalar.muli v13 c1_i32_1833
  let v2015 : BitVec 32 := Scalar.addi c0_i32_1834 v2014
  v2015.toNat
def k0_dev51 (d0 : Dev nD) : Nat :=
  let c0_i32_1861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1860 : BitVec 32 := 1#32
  let v2046 : BitVec 32 := Scalar.muli v13 c1_i32_1860
  let v2047 : BitVec 32 := Scalar.addi c0_i32_1861 v2046
  v2047.toNat
def k0_dev52 (d0 : Dev nD) : Nat :=
  let c0_i32_1888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1887 : BitVec 32 := 1#32
  let v2078 : BitVec 32 := Scalar.muli v13 c1_i32_1887
  let v2079 : BitVec 32 := Scalar.addi c0_i32_1888 v2078
  v2079.toNat
def k0_dev53 (d0 : Dev nD) : Nat :=
  let c0_i32_1915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1914 : BitVec 32 := 1#32
  let v2110 : BitVec 32 := Scalar.muli v13 c1_i32_1914
  let v2111 : BitVec 32 := Scalar.addi c0_i32_1915 v2110
  v2111.toNat
def k0_dev54 (d0 : Dev nD) : Nat :=
  let c0_i32_1942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1941 : BitVec 32 := 1#32
  let v2142 : BitVec 32 := Scalar.muli v13 c1_i32_1941
  let v2143 : BitVec 32 := Scalar.addi c0_i32_1942 v2142
  v2143.toNat
def k0_dev55 (d0 : Dev nD) : Nat :=
  let c0_i32_1969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1968 : BitVec 32 := 1#32
  let v2174 : BitVec 32 := Scalar.muli v13 c1_i32_1968
  let v2175 : BitVec 32 := Scalar.addi c0_i32_1969 v2174
  v2175.toNat
def k0_dev56 (d0 : Dev nD) : Nat :=
  let c0_i32_1996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1995 : BitVec 32 := 1#32
  let v2206 : BitVec 32 := Scalar.muli v13 c1_i32_1995
  let v2207 : BitVec 32 := Scalar.addi c0_i32_1996 v2206
  v2207.toNat
def k0_dev57 (d0 : Dev nD) : Nat :=
  let c0_i32_2023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2022 : BitVec 32 := 1#32
  let v2238 : BitVec 32 := Scalar.muli v13 c1_i32_2022
  let v2239 : BitVec 32 := Scalar.addi c0_i32_2023 v2238
  v2239.toNat
def k0_dev58 (d0 : Dev nD) : Nat :=
  let c0_i32_2050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2049 : BitVec 32 := 1#32
  let v2270 : BitVec 32 := Scalar.muli v13 c1_i32_2049
  let v2271 : BitVec 32 := Scalar.addi c0_i32_2050 v2270
  v2271.toNat
def k0_dev59 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2076 : BitVec 32 := 1#32
  let v2302 : BitVec 32 := Scalar.muli v13 c1_i32_2076
  let v2303 : BitVec 32 := Scalar.addi c0_i32_2077 v2302
  v2303.toNat
def k0_dev60 (d0 : Dev nD) : Nat :=
  let c0_i32_2104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2103 : BitVec 32 := 1#32
  let v2334 : BitVec 32 := Scalar.muli v13 c1_i32_2103
  let v2335 : BitVec 32 := Scalar.addi c0_i32_2104 v2334
  v2335.toNat
def k0_dev61 (d0 : Dev nD) : Nat :=
  let c0_i32_2131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2130 : BitVec 32 := 1#32
  let v2366 : BitVec 32 := Scalar.muli v13 c1_i32_2130
  let v2367 : BitVec 32 := Scalar.addi c0_i32_2131 v2366
  v2367.toNat
def k0_dev62 (d0 : Dev nD) : Nat :=
  let c0_i32_2158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2157 : BitVec 32 := 1#32
  let v2398 : BitVec 32 := Scalar.muli v13 c1_i32_2157
  let v2399 : BitVec 32 := Scalar.addi c0_i32_2158 v2398
  v2399.toNat
def k0_dev63 (d0 : Dev nD) : Nat :=
  let c0_i32_2185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2184 : BitVec 32 := 1#32
  let v2430 : BitVec 32 := Scalar.muli v13 c1_i32_2184
  let v2431 : BitVec 32 := Scalar.addi c0_i32_2185 v2430
  v2431.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32x1024x1024 : Shape := ⟨3, ![32, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Steps.lean ====
/-
  The kernel's body as a sequence of steps. The printed body is cut into windows of sixty statements, whatever they
  do; here the same operations stand as what they are: the entry handshake, thirty-one transfers of the reduce-scatter
  ring (each but the first after an addition into the send buffer), the normalisation of the device's own rows, and
  thirty-one transfers of the all-gather ring. `body_eq` says the two are the same program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Ring

open Cert.KernelIdeal Cert.KernelIdeal.Gen
open Idealize.ShloMosaic Idealize.SL.Sem

variable {F : FTy → Type} [FloatOps F]

/-! ## The buffers and the semaphores -/

/-- The staged inputs `partial`, `resid`, `gamma`, the staged output, the receive slots and the send slots. -/
abbrev xM : Memref sig .tc .vmem S1x1024x1024 .f32 := Memref.whole cc0_stg0_0
abbrev bM : Memref sig .tc .vmem S1024x1024 .f32 := Memref.whole cc0_stg1_0
abbrev gM : Memref sig .tc .vmem S1024 .f32 := Memref.whole cc0_stg2_0
abbrev oM : Memref sig .tc .vmem S1024x1024 .f32 := Memref.whole cc0_stg3_0
abbrev rvM : Memref sig .tc .vmem S31x32x1024 .f32 := Memref.whole cc0_scratch0
abbrev sdM : Memref sig .tc .vmem S31x32x1024 .f32 := Memref.whole cc0_scratch1

/-- Slot `h` of a 31-slot buffer lies inside it, -/
theorem inbSlot (h : Fin 31) : ∀ a, (![h.val, 0, 0] : Fin 3 → Nat) a + S1x32x1024.size a ≤ S31x32x1024.size a := by
  revert h; decide
/-- and entry `h` of a 31-entry semaphore array inside that. -/
theorem inbSem (h : Fin 31) : ∀ a, (![h.val] : Fin 1 → Nat) a + S1.size a ≤ S31.size a := by revert h; decide

/-- The rectangle of slot `h`. -/
abbrev slotR (h : Fin 31) : Rect S31x32x1024 := Rect.unit (s := S31x32x1024) ![h.val, 0, 0] S1x32x1024.size (inbSlot h)
/-- Slot `h` of a 31-slot buffer, as 32 rows. -/
abbrev slot (M : Memref sig .tc .vmem S31x32x1024 .f32) (h : Fin 31) : Memref sig .tc .vmem S32x1024 .f32 :=
  (M.slice (slotR h) (fun _ => rfl)).squeeze S32x1024 squeezes_S1x32x1024_S32x1024
/-- Entry `h` of a 31-entry semaphore array. -/
abbrev semAt (A : DmaSems sig S31) (h : Fin 31) : DmaSem sig :=
  ((A.slice (Rect.unit (s := S31) ![h.val] S1.size (inbSem h))).squeeze S_ squeezes_S1_S_).sem

/-- The rows of `partial` that device `c` sends first, as 32 rows. -/
abbrev xFirst (c : Dev nD) : Memref sig .tc .vmem S32x1024 .f32 :=
  (xM.slice (Rect.unit (s := S1x1024x1024) (k0_off1 c) S1x32x1024.size (k0_off1_inb c)) (fun _ => rfl)).squeeze S32x1024 squeezes_S1x32x1024_S32x1024
/-- The rows of `partial` that device `c` adds before its transfer `h + 1`. -/
abbrev xR (c : Dev nD) (h : Fin 30) : Rect S1x1024x1024 :=
  Rect.unit (s := S1x1024x1024) (k0_off2 c (BitVec.ofNat 32 (1 + h.val))) S1x32x1024.size (k0_off2_inb c h)
/-- The rows of `partial` device `c` owns at the end, -/
abbrev xOwn (c : Dev nD) : Rect S1x1024x1024 := Rect.unit (s := S1x1024x1024) (k0_off3 c) S1x32x1024.size (k0_off3_inb c)
/-- the same rows of `resid` and of the output. -/
abbrev own (c : Dev nD) : Rect S1024x1024 := Rect.unit (s := S1024x1024) (k0_off4 c) S32x1024.size (k0_off4_inb c)
/-- The output rows device `c` passes on in all-gather transfer `h`. -/
abbrev oSlice (c : Dev nD) (h : Fin 31) : Memref sig .tc .vmem S32x1024 .f32 :=
  oM.slice (Rect.unit (s := S1024x1024) (k0_off5 c (BitVec.ofNat 32 h.val)) S32x1024.size (k0_off5_inb c h)) (fun _ => rfl)

/-- The device every transfer of device `c` goes to, as the program computes it. -/
abbrev right (c : Dev nD) : Dev nD := ⟨k0_dev2 c, k0_dev2_lt c⟩
/-- The device whose barrier semaphore device `c` signals, as the program computes it. -/
abbrev left (c : Dev nD) : Dev nD := ⟨k0_dev1 c, k0_dev1_lt c⟩

/-- The barrier semaphore of the collective. -/
abbrev barS : Sem sig := (SemArray.scalar (sig.barrier 0 rfl) : Sems sig S_).sem

/-! ## The steps -/

/-- Programs over the kernel's effects. -/
abbrev KProg (F : FTy → Type) : Type 1 := Prog (TpuEff nD τ sig (Elt F) Λ₀ .tc) PUnit

/-- The first transfer of the reduce-scatter ring: straight from `partial`. -/
def rsFirst (c : Dev nD) (k : KProg F) : KProg F :=
  .op (.enqueueDma (xFirst c) (.remote (Dev.tc (right c)) (slot rvM 0) (.dma (semAt cc0_scratch2 0))) (.dma (semAt cc0_scratch3 0))
    ((View.wordExact_bits rfl).reshape _ _) ((View.wordExact_bits rfl).reshape _ _) ⟨⟨rfl, Or.inl rfl⟩, trivial⟩) fun _ =>
  .op (.waitDma2 (semAt cc0_scratch2 0) (slot rvM 0) (xFirst c) ((View.wordExact_bits rfl).reshape _ _) ((View.wordExact_bits rfl).reshape _ _)) fun _ =>
  .op (.waitDma2 (semAt cc0_scratch3 0) (xFirst c) (slot rvM 0) ((View.wordExact_bits rfl).reshape _ _) ((View.wordExact_bits rfl).reshape _ _)) fun _ => k

/-- Transfer `h + 1` of the reduce-scatter ring: the slot received last plus the device's own rows, through the send slot. -/
def rsNext (c : Dev nD) (h : Fin 30) (k : KProg F) : KProg F :=
  .op (.load rvM (slotR h.castSucc).toLoadRect (View.loadsAt_vmem h_S1x32x1024)) fun v : Vec F S1x32x1024 .f32 =>
  .op (.load xM (xR c h).toLoadRect (View.loadsAt_vmem h_S1x32x1024)) fun w : Vec F S1x32x1024 .f32 =>
  .op (.load sdM (slotR h.succ).toLoadRect (View.loadsAt_vmem h_S1x32x1024)) fun _ =>
  .op (.store sdM (slotR h.succ) (k0_pay1 v w) Finset.univ (View.stores_vmem_bits_univ h_S1x32x1024 rfl) (.inl rfl)) fun _ =>
  .op (.enqueueDma (slot sdM h.succ) (.remote (Dev.tc (right c)) (slot rvM h.succ) (.dma (semAt cc0_scratch2 h.succ))) (.dma (semAt cc0_scratch3 h.succ))
    ((View.wordExact_bits rfl).reshape _ _) ((View.wordExact_bits rfl).reshape _ _) ⟨⟨rfl, Or.inl rfl⟩, trivial⟩) fun _ =>
  .op (.waitDma2 (semAt cc0_scratch2 h.succ) (slot rvM h.succ) (slot sdM h.succ) ((View.wordExact_bits rfl).reshape _ _) ((View.wordExact_bits rfl).reshape _ _)) fun _ =>
  .op (.waitDma2 (semAt cc0_scratch3 h.succ) (slot sdM h.succ) (slot rvM h.succ) ((View.wordExact_bits rfl).reshape _ _) ((View.wordExact_bits rfl).reshape _ _)) fun _ => k

/-- The device's own rows, normalised, into the output: the last received slot plus its rows of `partial` and `resid`. -/
def mid (c : Dev nD) (k : KProg F) : KProg F :=
  .op (.load rvM (slotR 30).toLoadRect (View.loadsAt_vmem h_S1x32x1024)) fun v : Vec F S1x32x1024 .f32 =>
  .op (.load xM (xOwn c).toLoadRect (View.loadsAt_vmem h_S1x32x1024)) fun w : Vec F S1x32x1024 .f32 =>
  .op (.load bM (own c).toLoadRect (View.loadsAt_vmem h_S32x1024)) fun b : Vec F S32x1024 .f32 =>
  .op (.load gM (Rect.unit (s := S1024) ![0] S1024.size inb_S1024_S1024_0).toLoadRect (View.loadsAt_vmem h_S1024)) fun g : Vec F S1024 .f32 =>
  .op (.load oM (own c).toLoadRect (View.loadsAt_vmem h_S32x1024)) fun _ =>
  .op (.store oM (own c) (k0_pay39 (k0_pay38 v w b) g) Finset.univ (View.stores_vmem_bits_univ h_S32x1024 rfl) (.inl rfl)) fun _ => k

/-- Transfer `h` of the all-gather ring: the rows received last (at first its own), to the same rows. -/
def agStep (c : Dev nD) (h : Fin 31) (k : KProg F) : KProg F :=
  .op (.enqueueDma (oSlice c h) (.remote (Dev.tc (right c)) (oSlice c h) (.dma (semAt cc0_scratch4 h))) (.dma (semAt cc0_scratch5 h))
    (View.wordExact_bits rfl) (View.wordExact_bits rfl) ⟨⟨rfl, Or.inl rfl⟩, trivial⟩) fun _ =>
  .op (.waitDma2 (semAt cc0_scratch4 h) (oSlice c h) (oSlice c h) (View.wordExact_bits rfl) (View.wordExact_bits rfl)) fun _ =>
  .op (.waitDma2 (semAt cc0_scratch5 h) (oSlice c h) (oSlice c h) (View.wordExact_bits rfl) (View.wordExact_bits rfl)) fun _ => k

/-- The reduce-scatter transfers `1` to `n`, then `k`. -/
def rsRun (c : Dev nD) : (n : ℕ) → n ≤ 30 → KProg F → KProg F
  | 0, _, k => k
  | n + 1, h, k => rsRun c n (Nat.le_of_succ_le h) (rsNext c ⟨n, h⟩ k)

/-- The all-gather transfers `0` to `n - 1`, then `k`. -/
def agRun (c : Dev nD) : (n : ℕ) → n ≤ 31 → KProg F → KProg F
  | 0, _, k => k
  | n + 1, h, k => agRun c n (Nat.le_of_succ_le h) (agStep c ⟨n, h⟩ k)

/-- Everything after the device knows which it is. -/
def bodyOf (c : Dev nD) : KProg F :=
  Prog.bind (semSignalWord (left c) barS 1#32) fun _ => Prog.bind (semWaitWord barS 1#32) fun _ =>
    rsFirst c (rsRun c 30 (Nat.le_refl _) (mid c (agRun c 31 (Nat.le_refl _) (.ret ⟨⟩))))

set_option maxRecDepth 65536 in
/-- The printed body is that, from the device's id on. -/
theorem body_eq : cc0_body (F := F) xM (Memref.isWhole_whole _) bM (Memref.isWhole_whole _) gM (Memref.isWhole_whole _) oM (Memref.isWhole_whole _)
      rvM (Memref.isWhole_whole _) sdM (Memref.isWhole_whole _) cc0_scratch2 cc0_scratch3 cc0_scratch4 cc0_scratch5
    = .op .deviceId fun c => bodyOf c := by
  chain_rfl

end Cert.Ring

end
-- ==== Proof.Geometry.lean ====
/-
  The ring's arithmetic: whose neighbour is whose, where the printed offsets point, and which elements each view covers.
  The output's rows are numbered relative to a device by the order in which they reach it in the all-gather (`och`): its
  own rows are number 0, the rows of transfer `h` arrive as number `h + 1`. Slots and output rows are then both ranges.
-/
module

public import proofs.«01_k».proof.Proof.Steps
public import Idealize.ShloMosaic.Lib.ValueIdxCore
public import Idealize.ShloMosaic.Lib.Pipeline.Value

@[expose] public section

noncomputable section

namespace Cert.Ring

open Cert.KernelIdeal Cert.KernelIdeal.Gen
open Idealize.ShloMosaic Idealize.SL.Sem

variable {F : FTy → Type} [FloatOps F]

/-! ## Neighbours -/

set_option backward.proofsInPublic true in
/-- The device to the right, to which every transfer goes, -/
def nxt (c : Dev nD) : Dev nD := ⟨(c.val + 1) % 32, Nat.mod_lt _ (by decide)⟩
set_option backward.proofsInPublic true in
/-- and the device to the left, which every signal goes to and every transfer comes from. -/
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide
theorem nxt_val (c : Dev nD) : (nxt c).val = (c.val + 1) % 32 := rfl
theorem prv_val (c : Dev nD) : (prv c).val = (c.val + 31) % 32 := rfl

/-- Once around, as a permutation. -/
def around : Dev nD ≃ Dev nD := ⟨nxt, prv, prv_nxt, nxt_prv⟩

theorem right_eq (c : Dev nD) : right c = nxt c := by revert c; decide +kernel
theorem left_eq (c : Dev nD) : left c = prv c := by revert c; decide +kernel

/-! ## Offsets -/

theorem off1_eq (c : Dev nD) : k0_off1 c = ![0, 32 * c.val, 0] := by revert c; decide +kernel
theorem off2_eq (c : Dev nD) (h : Fin 30) : k0_off2 c (BitVec.ofNat 32 (1 + h.val)) = ![0, 32 * ((c.val + 31 - h.val) % 32), 0] := by
  revert c h; decide +kernel
theorem off3_eq (c : Dev nD) : k0_off3 c = ![0, 32 * ((c.val + 1) % 32), 0] := by revert c; decide +kernel
theorem off4_eq (c : Dev nD) : k0_off4 c = ![32 * ((c.val + 1) % 32), 0] := by revert c; decide +kernel
theorem off5_eq (c : Dev nD) (h : Fin 31) : k0_off5 c (BitVec.ofNat 32 h.val) = ![32 * ((c.val + 33 - h.val) % 32), 0] := by
  revert c h; decide +kernel

/-! ## Element sets -/

/-- When the output rows an element lies in reach device `c`. -/
def och (c : Dev nD) (i : S1024x1024.Idx) : ℕ := (c.val + 33 - (i 0).val / 32) % 32

/-- The output elements whose rows reach device `c` at `a` or later and before `b`. -/
def oset (c : Dev nD) (a b : ℕ) : Finset S1024x1024.Idx := Finset.univ.filter fun i => a ≤ och c i ∧ och c i < b
/-- The elements of slots `a` to `b - 1`. -/
def sset (a b : ℕ) : Finset S31x32x1024.Idx := Finset.univ.filter fun i => a ≤ (i 0).val ∧ (i 0).val < b

theorem mem_oset {c : Dev nD} {a b : ℕ} {i : S1024x1024.Idx} : i ∈ oset c a b ↔ a ≤ och c i ∧ och c i < b := by simp [oset]
theorem mem_sset {a b : ℕ} {i : S31x32x1024.Idx} : i ∈ sset a b ↔ a ≤ (i 0).val ∧ (i 0).val < b := by simp [sset]

theorem och_lt (c : Dev nD) (i : S1024x1024.Idx) : och c i < 32 := Nat.mod_lt _ (by decide)
theorem row_lt (i : S1024x1024.Idx) : (i 0).val < 1024 := (i 0).isLt

theorem oset_all (c : Dev nD) : oset c 0 32 = Finset.univ :=
  Finset.eq_univ_of_forall fun i => mem_oset.mpr ⟨Nat.zero_le _, och_lt c i⟩
theorem sset_all : sset 0 31 = Finset.univ :=
  Finset.eq_univ_of_forall fun i => mem_sset.mpr ⟨Nat.zero_le _, (i 0).isLt⟩

theorem oset_split (c : Dev nD) {a b d : ℕ} (h : a ≤ b) (h' : b ≤ d) : oset c a d = oset c a b ∪ oset c b d := by
  ext i; rw [Finset.mem_union, mem_oset, mem_oset, mem_oset]; omega
theorem sset_split {a b d : ℕ} (h : a ≤ b) (h' : b ≤ d) : sset a d = sset a b ∪ sset b d := by
  ext i; rw [Finset.mem_union, mem_sset, mem_sset, mem_sset]; omega
theorem oset_disjoint (c : Dev nD) (a b d : ℕ) : Disjoint (oset c a b) (oset c b d) :=
  Finset.disjoint_left.mpr fun i h h' => by rw [mem_oset] at h h'; omega
theorem sset_disjoint (a b d : ℕ) : Disjoint (sset a b) (sset b d) :=
  Finset.disjoint_left.mpr fun i h h' => by rw [mem_sset] at h h'; omega
theorem sset_empty (a : ℕ) : sset a a = ∅ :=
  Finset.eq_empty_of_forall_notMem fun i h => by rw [mem_sset] at h; omega
theorem oset_empty (c : Dev nD) (a : ℕ) : oset c a a = ∅ :=
  Finset.eq_empty_of_forall_notMem fun i h => by rw [mem_oset] at h; omega

/-- What leaves the left neighbour at `a` reaches device `c` one transfer later. -/
theorem oset_prv (c : Dev nD) {a b : ℕ} (hb : b ≤ 31) : oset (prv c) a b = oset c (a + 1) (b + 1) := by
  ext i
  have h1 := row_lt i
  have h2 : c.val < 32 := c.isLt
  rw [mem_oset, mem_oset]; unfold och; rw [prv_val]; omega

/-- The elements of slot `h`. -/
theorem slotR_set (h : Fin 31) : (slotR h).set = sset h.val (h.val + 1) := by
  ext i
  rw [Rect.mem_set_unit, mem_sset]
  constructor
  · intro H; have := H 0; simpa [Nat.lt_succ_iff] using this
  · rintro ⟨h1, h2⟩ a
    match a with
    | ⟨0, _⟩ => exact ⟨h1, h2⟩
    | ⟨1, _⟩ => exact ⟨Nat.zero_le _, by have := (i 1).isLt; simpa using this⟩
    | ⟨2, _⟩ => exact ⟨Nat.zero_le _, by have := (i 2).isLt; simpa using this⟩

theorem rv_slot_set (h : Fin 31) : (slot rvM h).view.set = sset h.val (h.val + 1) := by
  show ((rvM.view.slice (slotR h)).reshape _ _).set = _
  rw [View.set_reshape, ← slotR_set]; exact View.set_slice_whole _ _
theorem sd_slot_set (h : Fin 31) : (slot sdM h).view.set = sset h.val (h.val + 1) := by
  show ((sdM.view.slice (slotR h)).reshape _ _).set = _
  rw [View.set_reshape, ← slotR_set]; exact View.set_slice_whole _ _

/-- A block of 32 rows of the output, by its first row. -/
theorem rows_set (k : ℕ) (off : Fin 2 → ℕ) (ho : off = ![32 * k, 0]) (inb) (i : S1024x1024.Idx) :
    i ∈ (Rect.unit (s := S1024x1024) off S32x1024.size inb).set ↔ (i 0).val / 32 = k := by
  subst ho
  rw [Rect.mem_set_unit]
  constructor
  · intro H; have := H 0
    have h1 : 32 * k ≤ (i 0).val ∧ (i 0).val < 32 * k + 32 := this
    omega
  · intro h a
    match a with
    | ⟨0, _⟩ => show 32 * k ≤ (i 0).val ∧ (i 0).val < 32 * k + 32; omega
    | ⟨1, _⟩ => exact ⟨Nat.zero_le _, by have := (i 1).isLt; simpa using this⟩

/-- The rows of transfer `h` of the all-gather are number `h`. -/
theorem oSlice_set (c : Dev nD) (h : Fin 31) : (oSlice c h).view.set = oset c h.val (h.val + 1) := by
  refine (View.set_slice_whole _ _).trans ?_
  ext i
  have h1 := row_lt i
  have h2 : c.val < 32 := c.isLt
  have h3 := h.isLt
  rw [rows_set _ _ (off5_eq c h), mem_oset]; unfold och; omega

/-- The device's own rows are number 0. -/
theorem own_set (c : Dev nD) : (own c).set = oset c 0 1 := by
  ext i
  have h1 := row_lt i
  have h2 : c.val < 32 := c.isLt
  rw [rows_set _ _ (off4_eq c), mem_oset]; unfold och; omega

end Cert.Ring

end
-- ==== Proof.Contents.lean ====
/-
  What the buffers hold. `X`, `B`, `G` are the devices' staged blocks of `partial`, of `resid` and of `gamma`. Transfer `n` of the
  reduce-scatter carries `sent X n c` out of device `c`; the whole output, the same on every device at the end, is `outF X B G`.
-/
module

public import proofs.«01_k».proof.Proof.Geometry
public import Idealize.ShloMosaic.Lib.Pipeline.ValueKit.Geometry

@[expose] public section

noncomputable section

namespace Cert.Ring

open Cert.KernelIdeal Cert.KernelIdeal.Gen
open Idealize.ShloMosaic Idealize.ShloMosaic.ValueIdx Idealize.SL.Sem

variable {F : FTy → Type} [FloatOps F]

/-- Rows `32 k` to `32 k + 31` of a device's block of `partial`. -/
def xrow (x : Vec F S1x1024x1024 .f32) (k : Fin 32) : Vec F S32x1024 .f32 :=
  fun j => x (ix3 (n0 := 1) (n1 := 1024) (n2 := 1024) 0 ⟨32 * k.val + (j 0).val, by have := idx2_lt0 j; omega⟩ (j 1))

/-- The chunk of rows `n` places below `c`'s own number. -/
def below (c : Dev nD) (n : ℕ) : Fin 32 := ⟨(c.val + (32 - n)) % 32, Nat.mod_lt _ (by decide)⟩

/-- What transfer `n` of the reduce-scatter carries out of device `c`: chunk `c - n`, summed over devices `c - n` to `c`. -/
def sent (X : Dev nD → Vec F S1x1024x1024 .f32) : ℕ → Dev nD → Vec F S32x1024 .f32
  | 0, c => xrow (X c) c
  | n + 1, c => addf (s := S32x1024) (φ := .f32) (sent X n (prv c)) (xrow (X c) (below c (n + 1)))

/-- Contents of a 31-slot buffer with these rows in every slot. -/
def spread (w : Vec F S32x1024 .f32) : Vec F S31x32x1024 .f32 := fun i => w (ix2 (n0 := 32) (n1 := 1024) (i 1) (i 2))

/-- The rows device `c` normalises, from what it loads. -/
def outRow (X : Dev nD → Vec F S1x1024x1024 .f32) (B : Dev nD → Vec F S1024x1024 .f32) (G : Dev nD → Vec F S1024 .f32) (c : Dev nD) :
    Vec F S32x1024 .f32 :=
  k0_pay39 (k0_pay38 (rvM.view.readAt (Elt F) (slotR 30).toLoadRect (spread (sent X 30 (prv c)))) (xM.view.readAt (Elt F) (xOwn c).toLoadRect (X c))
      (bM.view.readAt (Elt F) (own c).toLoadRect (B c)))
    (gM.view.readAt (Elt F) (Rect.unit (s := S1024) ![0] S1024.size inb_S1024_S1024_0).toLoadRect (G c))

/-- The device that computes output chunk `k`. -/
def maker (i : S1024x1024.Idx) : Dev nD := ⟨((i 0).val / 32 + 31) % 32, Nat.mod_lt _ (by decide)⟩

/-- The output: each row from the device that owns it. -/
def outF (X : Dev nD → Vec F S1x1024x1024 .f32) (B : Dev nD → Vec F S1024x1024 .f32) (G : Dev nD → Vec F S1024 .f32) : Vec F S1024x1024 .f32 :=
  fun i => outRow X B G (maker i) (ix2 (n0 := 32) (n1 := 1024) ⟨(i 0).val % 32, Nat.mod_lt _ (by decide)⟩ (i 1))

section Reads

omit [FloatOps F]

/-- Reading 32 rows of a block of `partial`, by the first of them. -/
theorem xread (k : Fin 32) (off : Fin 3 → ℕ) (ho : off = ![0, 32 * k.val, 0]) (inb) (x : Vec F S1x1024x1024 .f32)
    (j : S1x32x1024.Idx) : xM.view.readAt (Elt F) (Rect.unit (s := S1x1024x1024) off S1x32x1024.size inb).toLoadRect x j
      = xrow x k (ix2 (n0 := 32) (n1 := 1024) (j 1) (j 2)) := by
  subst ho
  refine congrArg x (funext fun a => Fin.ext ?_)
  refine (ValueKit.view_emb_slice_whole_unit_val cc0_stg0_0 _ _ inb j a).trans ?_
  match a with
  | ⟨0, _⟩ => have : (j 0).val < 1 := (j 0).isLt; show 0 + (j 0).val = 0; omega
  | ⟨1, _⟩ => rfl
  | ⟨2, _⟩ => exact Nat.zero_add _

/-- The same rows viewed without the leading axis. -/
theorem drop_apply (v : Vec F S1x32x1024 .f32) (h : S1x32x1024.ShapeCasts S32x1024) (j : S32x1024.Idx) :
    shapeCast S32x1024 v h j = v (ix3 (n0 := 1) (n1 := 32) (n2 := 1024) 0 (j 0) (j 1)) := by
  refine (shapeCast_dropUnit_apply (n := 2) ![32, 1024] v h j).trans (congrArg v (funext fun a => ?_))
  match a with
  | ⟨0, _⟩ => rfl
  | ⟨1, _⟩ => rfl
  | ⟨2, _⟩ => rfl
theorem add_apply (v : Vec F S32x1024 .f32) (h : S32x1024.ShapeCasts S1x32x1024) (j : S1x32x1024.Idx) :
    shapeCast S1x32x1024 v h j = v (ix2 (n0 := 32) (n1 := 1024) (j 1) (j 2)) := by
  refine (shapeCast_addUnit_apply (n := 2) ![32, 1024] v h j).trans (congrArg v (funext fun a => ?_))
  match a with
  | ⟨0, _⟩ => rfl
  | ⟨1, _⟩ => rfl

/-- A slot of spread rows reads as the rows. -/
theorem spread_read (h : Fin 31) (w : Vec F S32x1024 .f32) (j : S1x32x1024.Idx) :
    rvM.view.readAt (Elt F) (slotR h).toLoadRect (spread w) j = w (ix2 (n0 := 32) (n1 := 1024) (j 1) (j 2)) := by
  refine congrArg w (funext fun a => Fin.ext ?_)
  match a with
  | ⟨0, _⟩ => exact (ValueKit.view_emb_slice_whole_unit_val cc0_scratch0 _ _ (inbSlot h) j 1).trans (Nat.zero_add _)
  | ⟨1, _⟩ => exact (ValueKit.view_emb_slice_whole_unit_val cc0_scratch0 _ _ (inbSlot h) j 2).trans (Nat.zero_add _)

end Reads

/-- What the first transfer carries. -/
theorem first_read (X : Dev nD → Vec F S1x1024x1024 .f32) (c : Dev nD) : (xFirst c).view.read (Elt F) (X c) = sent X 0 c := by
  funext j
  refine (congrFun (Memref.read_squeeze_slice (Val := Elt F) xM (Rect.unit (s := S1x1024x1024) (k0_off1 c) S1x32x1024.size (k0_off1_inb c)) (fun _ => rfl)
    squeezes_S1x32x1024_S32x1024 shapeCasts_S1x32x1024_S32x1024 (X c)) j).trans ?_
  rw [drop_apply, xread (F := F) c _ (off1_eq c)]
  exact congrArg (xrow (X c) c) (eq_ix2 (n0 := 32) (n1 := 1024) j).symm

/-- What the later ones carry: the sum stored in the send slot, of the slot received last and the device's own rows. -/
theorem next_read (X : Dev nD → Vec F S1x1024x1024 .f32) (c : Dev nD) (h : Fin 30) (f : Vec F S31x32x1024 .f32) :
    (slot sdM h.succ).view.read (Elt F) ((sdM.access (slotR h.succ)).write (Elt F) f
        (k0_pay1 (rvM.view.readAt (Elt F) (slotR h.castSucc).toLoadRect (spread (sent X h.val (prv c)))) (xM.view.readAt (Elt F) (xR c h).toLoadRect (X c))) Finset.univ)
      = sent X (h.val + 1) c := by
  funext j
  refine (congrFun (Memref.read_squeeze_slice (Val := Elt F) sdM (slotR h.succ) (fun _ => rfl)
    squeezes_S1x32x1024_S32x1024 shapeCasts_S1x32x1024_S32x1024 _) j).trans ?_
  rw [View.readAt_rect, drop_apply]
  refine (congrFun (View.read_write_univ (v := sdM.view.slice (slotR h.succ)) (Val := Elt F) _ _) _).trans ?_
  unfold k0_pay1
  dsimp only
  rw [add_apply]
  show FloatOps.addf _ _ = FloatOps.addf _ _
  rw [drop_apply, drop_apply, spread_read,
    xread (F := F) (below c (h.val + 1)) _ ((off2_eq c h).trans (by unfold below; congr 3; dsimp only; have := h.isLt; omega))]
  exact congrArg (fun j => FloatOps.addf (sent X h.val (prv c) j) (xrow (X c) (below c (h.val + 1)) j)) (eq_ix2 (n0 := 32) (n1 := 1024) j).symm

section Writes

omit [FloatOps F]

/-- Rows written into a receive slot are spread there. -/
theorem slot_write (h : Fin 31) (f : Vec F S31x32x1024 .f32) (w : Vec F S32x1024 .f32) :
    ∀ i ∈ sset h.val (h.val + 1), (slot rvM h).view.write (Elt F) f w Finset.univ i = spread w i := by
  intro i hi
  rw [← rv_slot_set] at hi
  obtain ⟨x, rfl⟩ := View.exists_emb_of_mem_set (slot rvM h).view hi
  refine (View.write_emb_of_mem (v := (slot rvM h).view) (Val := Elt F) f w (Finset.mem_univ x)).trans ?_
  refine congrArg w (funext fun a => Fin.ext ?_)
  have e : Shape.reshapeEquiv (s := S1x32x1024) (s' := S32x1024) squeezes_S1x32x1024_S32x1024.numel_eq x = ix3 (n0 := 1) (n1 := 32) (n2 := 1024) 0 (x 0) (x 1) := by
    refine (Shape.reshapeEquiv_cons_one (n := 2) (d := ![32, 1024]) _ x).trans (funext fun a => ?_)
    match a with
    | ⟨0, _⟩ => rfl
    | ⟨1, _⟩ => rfl
    | ⟨2, _⟩ => rfl
  have key : ∀ b, (((slot rvM h).view.emb x : S31x32x1024.Idx) b : ℕ) = (![h.val, 0, 0] : Fin 3 → ℕ) b + (ix3 (n0 := 1) (n1 := 32) (n2 := 1024) 0 (x 0) (x 1) b).val := fun b => by
    rw [← e]; exact ValueKit.view_emb_slice_whole_unit_val cc0_scratch0 _ _ (inbSlot h) _ b
  match a with
  | ⟨0, _⟩ => exact ((key 1).trans (Nat.zero_add _)).symm
  | ⟨1, _⟩ => exact ((key 2).trans (Nat.zero_add _)).symm

end Writes

/-- The device's own rows of the output, once stored. -/
theorem own_write (X : Dev nD → Vec F S1x1024x1024 .f32) (B : Dev nD → Vec F S1024x1024 .f32) (G : Dev nD → Vec F S1024 .f32) (c : Dev nD)
    (f : Vec F S1024x1024 .f32) :
    ∀ i ∈ oset c 0 1, (oM.access (own c)).write (Elt F) f (outRow X B G c) Finset.univ i = outF X B G i := by
  intro i hi
  rw [← own_set] at hi
  have hi' : i ∈ (oM.view.slice (own c)).set := by
    have := View.set_slice_whole (sig := sig) (κ := .tc) cc0_stg3_0 (own c)
    exact this ▸ hi
  obtain ⟨x, rfl⟩ := View.exists_emb_of_mem_set (oM.view.slice (own c)) hi'
  refine (View.write_emb_of_mem (v := oM.view.slice (own c)) (Val := Elt F) f (outRow X B G c) (Finset.mem_univ x)).trans ?_
  have key : ∀ b, (((oM.view.slice (own c)).emb x : S1024x1024.Idx) b : ℕ) = k0_off4 c b + (x b).val :=
    fun b => ValueKit.view_emb_slice_whole_unit_val cc0_stg3_0 _ _ (k0_off4_inb c) x b
  rw [off4_eq] at key
  have hx : (x 0).val < 32 := (x 0).isLt
  have hc : c.val < 32 := c.isLt
  have k0 : (((oM.view.slice (own c)).emb x : S1024x1024.Idx) 0 : ℕ) = 32 * ((c.val + 1) % 32) + (x 0).val := key 0
  have k1 : (((oM.view.slice (own c)).emb x : S1024x1024.Idx) 1 : ℕ) = 0 + (x 1).val := key 1
  have hm : maker ((oM.view.slice (own c)).emb x) = c := Fin.ext (by unfold maker; dsimp only; rw [k0]; omega)
  unfold outF
  rw [hm]
  refine congrArg (outRow X B G c) (funext fun a => Fin.ext ?_)
  match a with
  | ⟨0, _⟩ => show (x 0).val = _ % 32; rw [k0]; omega
  | ⟨1, _⟩ => show (x 1).val = _; rw [k1]; omega

end Cert.Ring

end
-- ==== Proof.Protocol.lean ====
/-
  The protocol of the ring. Every device has one barrier cell and, for each transfer of the two rings, a send cell and a receive cell; each
  cell runs one round with one duty. The barrier's round hands over the right neighbour's receive slots and output; a receive cell's
  round the rows that landed; a send cell's round the rows read.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ring's own ghost state, and the whole proof's: the pipeline's beside it. -/
abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A transfer: `false` in the reduce-scatter, `true` in the all-gather, and its number there. -/
abbrev Xfer : Type := Bool × Fin 31
/-- A semaphore of the ring: the barrier, or a transfer's send (`false`) or receive (`true`) semaphore. -/
abbrev Cell : Type := Option (Bool × Xfer)

/-- The printed semaphore array of each kind. -/
abbrev arr : Bool → Bool → DmaSems sig S31
  | false, false => cc0_scratch2
  | true, false => cc0_scratch3
  | false, true => cc0_scratch4
  | true, true => cc0_scratch5

/-- The semaphore a cell is. -/
abbrev csem : Cell → SemLoc sig
  | none => .reg barS
  | some (r, x) => .dma (semAt (arr r x.1) x.2)
/-- The cell on device `ck.1`. -/
abbrev kcell (ck : Dev nD × Cell) : GSem nD τ sig := ((ck.1 : Thread nD τ), csem ck.2)

/-- The send and receive cells of a transfer. -/
abbrev snd (x : Xfer) : Cell := some (false, x)
abbrev rcv (x : Xfer) : Cell := some (true, x)

/-- Which cell a semaphore is: the pipeline's own four come first, then four arrays of 31. -/
def decode : SemLoc sig → Option Cell
  | .reg _ => some none
  | .dma q => if 4 ≤ q.val then some (some (decide ((q.val - 4) / 31 % 2 = 1), decide (2 ≤ (q.val - 4) / 31), ⟨(q.val - 4) % 31, Nat.mod_lt _ (by decide)⟩)) else none

theorem decode_csem (k : Cell) : decode (csem k) = some k := by
  match k with
  | none => rfl
  | some (r, p, h) => revert r p h; decide +kernel

theorem csem_injective : Function.Injective csem := fun k k' h =>
  Option.some.inj ((decode_csem k).symm.trans ((congrArg decode h).trans (decode_csem k')))
theorem kcell_injective : Function.Injective kcell := fun ck ck' h =>
  Prod.ext (congrArg (fun g : GSem nD τ sig => g.1.1) h) (csem_injective (congrArg (fun g : GSem nD τ sig => g.2) h))

/-- The credit of one transfer. -/
abbrev N : ℕ := (slot rvM 0).view.dmaCredit
theorem N_pos : 0 < N := View.dmaCredit_pos _ (by decide)
/-- What a cell's round counts up to. -/
abbrev unit (k : Cell) : ℕ := if k = none then 1 else N

/-! ## Assertions about the buffers -/

abbrev xAt (c : Dev nD) (S : Finset S1x1024x1024.Idx) (f : Vec F S1x1024x1024 .f32) : sProp 𝕄 := ((c : Thread nD τ).loc cc0_stg0_0) ↦[S]{fullShare} f
abbrev bAt (c : Dev nD) (S : Finset S1024x1024.Idx) (f : Vec F S1024x1024 .f32) : sProp 𝕄 := ((c : Thread nD τ).loc cc0_stg1_0) ↦[S]{fullShare} f
abbrev gAt (c : Dev nD) (S : Finset S1024.Idx) (f : Vec F S1024 .f32) : sProp 𝕄 := ((c : Thread nD τ).loc cc0_stg2_0) ↦[S]{fullShare} f
abbrev oAt (c : Dev nD) (S : Finset S1024x1024.Idx) (f : Vec F S1024x1024 .f32) : sProp 𝕄 := ((c : Thread nD τ).loc cc0_stg3_0) ↦[S]{fullShare} f
abbrev rvAt (c : Dev nD) (S : Finset S31x32x1024.Idx) (f : Vec F S31x32x1024 .f32) : sProp 𝕄 := ((c : Thread nD τ).loc cc0_scratch0) ↦[S]{fullShare} f
abbrev sdAt (c : Dev nD) (S : Finset S31x32x1024.Idx) (f : Vec F S31x32x1024 .f32) : sProp 𝕄 := ((c : Thread nD τ).loc cc0_scratch1) ↦[S]{fullShare} f

/-! ## The schedule -/

variable (X : Dev nD → Vec F S1x1024x1024 .f32) (B : Dev nD → Vec F S1024x1024 .f32) (G : Dev nD → Vec F S1024 .f32)

/-- What a cell's round hands device `c`: at the barrier, the right neighbour's receive slots and its output but for its own rows;
    for a transfer, the rows read and the rows landed. -/
def pay (c : Dev nD) : Cell → sProp 𝕄
  | none => iprop((∃ f, rvAt (nxt c) (sset 0 31) f) ∗ ∃ f, oAt (nxt c) (oset c 0 31) f)
  | some (false, false, h) => if h = 0 then xAt c (xFirst c).view.set (X c) else iprop(∃ f, sdAt c (sset h.val (h.val + 1)) f)
  | some (true, false, h) => rvAt c (sset h.val (h.val + 1)) (spread (sent X h.val (prv c)))
  | some (false, true, h) => oAt c (oset c h.val (h.val + 1)) (outF X B G)
  | some (true, true, h) => oAt c (oset c (h.val + 1) (h.val + 2)) (outF X B G)

instance pay_storable (c : Dev nD) (k : Cell) : BI.Storable (upEmb : UEmb _ 𝕄) (pay X B G c k) := by
  unfold pay; (repeat' split) <;> infer_instance

/-- One round per cell, one duty in it. -/
def Rd : Rounds.Schedule (GSem nD τ sig) Unit 𝕄 where
  duties g r := if r = 0 ∧ g.1.2 = .tc ∧ (decode g.2).isSome then {()} else ∅
  unitless _ := False
  amount g _ _ := if decode g.2 = some none then 1 else N
  payload g _ _ := (decode g.2).elim iprop(emp) (pay X B G g.1.1)
  amount_pos g _ _ _ := by
    by_cases h : decode g.2 = some none
    · rw [if_pos h]; exact Nat.one_pos
    · rw [if_neg h]; exact N_pos

instance Rd_storable (g : GSem nD τ sig) (r : ℕ) (d : Unit) : BI.Storable (upEmb : UEmb _ 𝕄) ((Rd X B G).payload g r d) := by
  show BI.Storable upEmb ((decode g.2).elim iprop(emp) (pay X B G g.1.1))
  cases decode g.2 with
  | none => exact inferInstanceAs (BI.Storable upEmb iprop(emp))
  | some k => exact pay_storable X B G g.1.1 k

section Sched
variable (c : Dev nD) (k : Cell)

theorem duties_k : (Rd X B G).duties (kcell (c, k)) 0 = {()} := by
  dsimp only [Rd]; rw [decode_csem]; exact if_pos ⟨rfl, rfl, rfl⟩
theorem mem_duties_k : () ∈ (Rd X B G).duties (kcell (c, k)) 0 := by rw [duties_k]; exact Finset.mem_singleton_self _
theorem duties_later (g : GSem nD τ sig) : ∀ r, 1 ≤ r → (Rd X B G).duties g r = ∅ :=
  fun r hr => by dsimp only [Rd]; rw [if_neg fun h => by omega]
theorem amount_k (d : Unit) : (Rd X B G).amount (kcell (c, k)) 0 d = unit k := by
  dsimp only [Rd]; rw [decode_csem]; unfold unit; simp only [Option.some.injEq]
theorem expect_k : (Rd X B G).expect (kcell (c, k)) 0 = unit k := by
  unfold Schedule.expect Schedule.amountOf; rw [duties_k, Finset.sum_singleton, amount_k]
theorem payload_k (d : Unit) : (Rd X B G).payload (kcell (c, k)) 0 d = pay X B G c k := by dsimp only [Rd]; rw [decode_csem]; rfl
theorem rest_k : bigSep ((Rd X B G).duties (kcell (c, k)) 0 \ ∅) (fun d => (Rd X B G).payload (kcell (c, k)) 0 d) = pay X B G c k := by
  rw [Finset.sdiff_empty, duties_k, bigSep_singleton, payload_k]

end Sched

/-! ## What is owed, and the levels -/

/-- A transfer's place in program order. -/
def num (x : Xfer) : ℕ := 31 * x.1.toNat + x.2.val

theorem num_injective : Function.Injective num := fun ⟨p, h⟩ ⟨p', h'⟩ e => by
  have hh := h.isLt
  have hh' := h'.isLt
  have e' : 31 * p.toNat + h.val = 31 * p'.toNat + h'.val := e
  cases p <;> cases p' <;> simp only [Bool.toNat_false, Bool.toNat_true] at e' <;>
    first | (exact Prod.ext rfl (Fin.ext (show h.val = h'.val by omega))) | (exfalso; omega)

/-- The transfers from number `n` on. -/
def from' (n : ℕ) : Finset Xfer := Finset.univ.filter fun x => n ≤ num x

/-- What device `c` still owes its right neighbour from transfer number `n` on. -/
def owe (c : Dev nD) (n : ℕ) : CellTallies nD τ sig Unit := ∑ x ∈ from' n, tallyAt (kcell (nxt c, rcv x)) () N

/-- The transfer to come is the last summand. -/
theorem owe_peel (c : Dev nD) (x : Xfer) : owe c (num x) = owe c (num x + 1) + tallyAt (kcell (nxt c, rcv x)) () N := by
  have h : from' (num x) = insert x (from' (num x + 1)) := by
    ext y
    simp only [from', Finset.mem_insert, Finset.mem_filter, Finset.mem_univ, true_and]
    constructor
    · intro hy
      by_cases e : num y = num x
      · exact Or.inl (num_injective e)
      · exact Or.inr (by omega)
    · rintro (rfl | hy)
      · exact le_rfl
      · omega
  have hn : x ∉ from' (num x + 1) := fun hx => by
    have := (Finset.mem_filter.mp hx).2; omega
  unfold owe
  rw [h, Finset.sum_insert hn, add_comm]

/-- Nothing is owed after the last. -/
theorem owe_end (c : Dev nD) : owe c 62 = 0 := by
  have h : from' 62 = ∅ := by
    refine Finset.filter_eq_empty_iff.mpr fun x _ hx => ?_
    obtain ⟨p, h⟩ := x
    have := h.isLt
    cases p <;> simp only [num, Bool.toNat_false, Bool.toNat_true] at hx <;> omega
  unfold owe; rw [h, Finset.sum_empty]

theorem owe_pos {c : Dev nD} {n : ℕ} {g : GSem nD τ sig} {u : Unit} (h : 0 < owe c n g u) : ∃ x, n ≤ num x ∧ g = kcell (nxt c, rcv x) := by
  unfold owe at h
  rw [Finset.sum_apply, Finsupp.finset_sum_apply] at h
  obtain ⟨x, hx, hne⟩ := Finset.exists_ne_zero_of_sum_ne_zero (Nat.pos_iff_ne_zero.mp h)
  rw [tallyAt_apply] at hne
  refine ⟨x, (Finset.mem_filter.mp hx).2, ?_⟩
  by_contra hn
  exact hne (if_neg fun h' => hn h'.1)

/-- At the start: every transfer, and the barrier signal to the left neighbour. -/
def owe₀ (c : Dev nD) : CellTallies nD τ sig Unit := owe c 0 + tallyAt (kcell (prv c, none)) () 1

theorem owe₀_pos {c : Dev nD} {g : GSem nD τ sig} {u : Unit} (h : 0 < owe₀ c g u) :
    (∃ x, g = kcell (nxt c, rcv x)) ∨ g = kcell (prv c, none) := by
  unfold owe₀ at h
  rw [Pi.add_apply, Finsupp.add_apply] at h
  by_cases h0 : 0 < owe c 0 g u
  · obtain ⟨x, -, hx⟩ := owe_pos h0; exact Or.inl ⟨x, hx⟩
  · right
    by_contra hn
    rw [tallyAt_apply, if_neg (fun h' => hn h'.1)] at h
    omega

def L (g : GSem nD τ sig) : Finset Unit := if g.1.2 = .tc then {()} else ∅
/-- The barrier below every receive cell, these in program order; every other semaphore at the bottom. -/
def height : Option Cell → ℕ
  | some none => 1
  | some (some (true, x)) => 2 + num x
  | _ => 0
def lv (g : GSem nD τ sig) (_ : Unit) : ℕ := height (decode g.2)

theorem L_of_ne (g : GSem nD τ sig) (h : g.1.2 ≠ .tc) : L g = ∅ := if_neg h
theorem L_tc (c : Dev nD) (sm : SemLoc sig) : () ∈ L ((c : Thread nD τ), sm) := by unfold L; rw [if_pos rfl]; exact Finset.mem_singleton_self _
theorem lv_bar (c : Dev nD) (u : Unit) : lv (kcell (c, none)) u = 1 := congrArg height (decode_csem none)
theorem lv_snd (c : Dev nD) (x : Xfer) (u : Unit) : lv (kcell (c, snd x)) u = 0 := congrArg height (decode_csem (snd x))
theorem lv_rcv (c : Dev nD) (x : Xfer) (u : Unit) : lv (kcell (c, rcv x)) u = 2 + num x := congrArg height (decode_csem (rcv x))

/-- A device may wait on a semaphore below everything it still owes. -/
theorem mayWait_owe (c : Dev nD) (sm : SemLoc sig) (n : ℕ) (h : lv ((c : Thread nD τ), sm) () < 2 + n) :
    (levAts L lv : sProp 𝕄) ⊢ MayWait (c : Thread nD τ) sm () (owe c n) :=
  MayOwe.of_cut (L := L) (lev := lv) (1 + n) (fun p hp => by rw [Finset.mem_singleton.mp hp]; exact L_tc c _)
    (fun g u hg => by obtain ⟨x, -, rfl⟩ := owe_pos hg; exact L_tc _ _)
    (fun p hp => by rw [Finset.mem_singleton.mp hp]; exact (show lv ((c : Thread nD τ), sm) () ≤ 1 + n by omega))
    (fun g u hg => by obtain ⟨x, hx, rfl⟩ := owe_pos hg; rw [lv_rcv]; omega)

/-- A pipeline's own semaphore is below everything owed at the start, and nothing is owed at the end. -/
theorem mayWait_stage (c : Dev nD) (sm : SemLoc sig) (h : lv ((c : Thread nD τ), sm) () = 0) (O : CellTallies nD τ sig Unit) (hO : O = owe₀ c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp]; exact L_tc c _)
      (fun g u hg => by rcases owe₀_pos hg with ⟨x, rfl⟩ | rfl <;> exact L_tc _ _)
      (fun p hp => by rw [Finset.mem_singleton.mp hp]; exact le_of_eq h)
      (fun g u hg => by
        rcases owe₀_pos hg with ⟨x, rfl⟩ | rfl
        · rw [lv_rcv]; omega
        · rw [lv_bar]; omega)
  · rw [MayWait_zero]; iintro -; iempintro

/-! ## What a device holds of the protocol -/

variable (K : Dev nD × Cell → ℕ)

/-- Shared by all: every cell's invariant, and that every cell is at round 0 or later. -/
def records : sProp 𝕄 :=
  iprop(bigSep Finset.univ (fun ck : Dev nD × Cell => cellInv ER (Rd X B G) (K ck) (kcell ck)) ∗ bigSep Finset.univ (fun ck : Dev nD × Cell => reached ER (kcell ck) 0))

instance records_persistent : BI.Persistent (records X B G K) := by unfold records; infer_instance

theorem records_inv (ck : Dev nD × Cell) : records X B G K ⊢ cellInv ER (Rd X B G) (K ck) (kcell ck) := by
  unfold records; exact sep_elim_left.trans (bigSep_elim (Finset.mem_univ ck))
theorem records_reached (ck : Dev nD × Cell) : records X B G K ⊢ (reached ER (kcell ck) 0 : sProp 𝕄) := by
  unfold records; exact sep_elim_right.trans (bigSep_elim (Finset.mem_univ ck))

/-- What device `c` needs for transfer `x`: both duty tokens, its positions at its two cells, and the credit it will wait with. -/
def kit (c : Dev nD) (x : Xfer) : sProp 𝕄 :=
  iprop(dutyTok ER (kcell (c, snd x)) 0 () ∗ dutyTok ER (kcell (nxt c, rcv x)) 0 () ∗ atPos ER (kcell (c, snd x)) 0 ∅ 0 ∗ atPos ER (kcell (c, rcv x)) 0 ∅ 0
    ∗ cred (tallyAt (kcell (c, rcv x)) () N))
/-- What it has of it afterwards: both semaphores back at zero. -/
def closed (c : Dev nD) (x : Xfer) : sProp 𝕄 := iprop(semVal (kcell (c, snd x)) 0 ∗ semVal (kcell (c, rcv x)) 0)

/-- The debts from transfer number `n` on, whatever was waited for so far. -/
def ow (c : Dev nD) (n : ℕ) : sProp 𝕄 := iprop(∃ W, owes (c : Thread nD τ) (owe c n) W)

end Cert.Ring

end
-- ==== Proof.Transfer.lean ====
/-
  One transfer of either ring: the send to the right, the wait for the send, the wait for the receipt of the left neighbour's, and both
  semaphores back at zero.
-/
module

public import proofs.«01_k».proof.Proof.Protocol

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S1x1024x1024 .f32) (B : Dev nD → Vec F S1024x1024 .f32) (G : Dev nD → Vec F S1024 .f32)
variable (K : Dev nD × Cell → ℕ)

/-- The weakest precondition of a piece of device `c`'s program. -/
abbrev wpc (c : Dev nD) (k : KProg F) (Q : PUnit → sProp 𝕄) : sProp 𝕄 :=
  wp frame (wpE (defs₀ (F := F)) 𝒱₀ (c : Thread nD τ) none) Set.univ k Q

/-- Closing a cell whose round is over. -/
theorem close (ck : Dev nD × Cell) : iprop(records X B G K ∗ atPos ER (kcell ck) (0 + 1) ∅ 0) ⊢ (iprop(|={Set.univ}=> semVal (kcell ck) 0) : sProp 𝕄) :=
  (sep_mono_left (records_inv X B G K ck)).trans
    (Rounds.cell_close ER (Rd X B G) (Set.mem_univ (K ck)) (fun h => h) (R := 0 + 1) (duties_later X B G (kcell ck)))

/-- Waiting for a cell's round, owing the transfers from number `n` on. -/
theorem wait (c : Dev nD) (k : Cell) {w : TpuEff nD τ sig (Elt F) Λ₀ .tc PUnit} (n : ℕ) (u : ℕ) (hu : u = unit k)
    (hw : ∀ Q : PUnit → sProp 𝕄, wpE (defs₀ (F := F)) 𝒱₀ (c : Thread nD τ) none Set.univ w Q = waitSpec (c : Thread nD τ) Set.univ (csem k) u Q)
    (hl : lv (kcell (c, k)) () < 2 + n) (W : Waits sig Unit) {kk : PUnit → KProg F} {Q : PUnit → sProp 𝕄} :
    iprop(records X B G K ∗ levAts L lv ∗ cred (tallyAt (kcell (c, k)) () u) ∗ owes (c : Thread nD τ) (owe c n) W ∗ atPos ER (kcell (c, k)) 0 ∅ 0)
      ⊢ iprop(((owes (c : Thread nD τ) (owe c n) (insert (csem k, ()) W) ∗ semVal (kcell (c, k)) 0 ∗ pay X B G c k) -∗ wpc c (kk ⟨⟩) Q)
          -∗ wpc c (.op w kk) Q) := by
  subst hu
  iintro ⟨#Hrec, #Hlev, Hcred, HO, Hat⟩ Hk
  iapply (Rounds.wp_wait_rest_token 𝒱₀ ER (Rd X B G) (c : Thread nD τ) none (κ := K (c, k)) (sm := csem k) hw (Set.mem_univ _) ()
      (O := owe c n) (W := W) (R := 0) (m := 0) (T := ∅) ((Nat.zero_add _).trans (expect_k X B G c k).symm)) $$ [Hcred HO Hat]
  · isplitr; · iapply (records_inv X B G K (c, k)); iexact Hrec
    isplitl [Hcred]; · iexact Hcred
    isplitl [HO]; · iexact HO
    isplitr; · iapply (mayWait_owe c (csem k) n hl); iexact Hlev
    iexact Hat
  iintro ⟨HO, Hat, -, Hpay⟩
  ihave Hp := (Entails.of_eq (rest_k X B G c k)) $$ Hpay
  imod (close X B G K (c, k)) $$ [Hat] with Hz
  · isplitr; · iexact Hrec
    iexact Hat
  iapply Hk
  isplitl [HO]; · iexact HO
  isplitl [Hz]; · iexact Hz
  iexact Hp

/-- The transfer. The issuer lends the rows it reads and gives the right neighbour's rows it overwrites; it gets its own back and what
    its left neighbour wrote. -/
theorem xfer (c n : Dev nD) (hn : n = nxt c) (x : Xfer) (src dst : Memref sig .tc .vmem S32x1024 .f32)
    (fs : Buf (Elt F) (src.view.loc (c : Thread nD τ))) (fd : Buf (Elt F) (dst.view.loc (nxt c : Thread nD τ)))
    (hNs : src.view.dmaCredit = N) (hNd : dst.view.dmaCredit = N)
    (hs : (src.view.loc (c : Thread nD τ) ↦[src.view.set]{fullShare} fs : sProp 𝕄) ⊢ pay X B G c (snd x))
    (hd : (dst.view.loc (nxt c : Thread nD τ) ↦[dst.view.set]{fullShare} (dst.view.write (Elt F) fd (src.view.read (Elt F) fs) Finset.univ) : sProp 𝕄)
      ⊢ pay X B G (nxt c) (rcv x))
    {hsc : dst.view.ref.isScScratch = false} {hsrc : src.view.WordExact} {hdst : dst.view.WordExact}
    {hsem : DmaTarget.Typed .vmem (csem (rcv x)) (.remote (Dev.tc n : Thread nD τ) dst (csem (snd x)) hsc)}
    {h1 h1' : src.view.WordExact} {h2 h2' : dst.view.WordExact} {k : KProg F} {Q : PUnit → sProp 𝕄} :
    iprop(records X B G K ∗ levAts L lv ∗ (src.view.loc (c : Thread nD τ) ↦[src.view.set]{fullShare} fs) ∗ (dst.view.loc (nxt c : Thread nD τ) ↦[dst.view.set]{fullShare} fd)
        ∗ ow c (num x) ∗ kit c x)
      ⊢ iprop(((pay X B G c (snd x) ∗ pay X B G c (rcv x) ∗ ow c (num x + 1) ∗ closed c x) -∗ wpc c k Q)
          -∗ wpc c (.op (.enqueueDma src (.remote (Dev.tc n : Thread nD τ) dst (csem (snd x)) hsc) (csem (rcv x)) hsrc hdst hsem) fun _ =>
              .op (.waitDma2 (semAt (arr false x.1) x.2) dst src h2 h1) fun _ => .op (.waitDma2 (semAt (arr true x.1) x.2) src dst h1' h2') fun _ => k) Q) := by
  subst hn
  unfold ow kit closed
  iintro ⟨#Hrec, #Hlev, Hs, Hd, ⟨%W, HO⟩, Ht1, Ht2, Ha1, Ha2, Hc2⟩ Hk
  iapply (Rounds.wp_send_pointsTo 𝒱₀ ER (Rd X B G) (c : Thread nD τ) none (κ₁ := K (c, snd x)) (κ₂ := K (nxt c, rcv x))
      (r₁ := 0) (r₂ := 0) (d₁ := ()) (d₂ := ()) (fd := fd) (mem_duties_k X B G c (snd x)) (mem_duties_k X B G (nxt c) (rcv x)) () () N hNd
      (amount_k X B G c (snd x) ()) (amount_k X B G (nxt c) (rcv x) ()) (owe c (num x + 1)) (owe_peel c x) (W := W)
      (hs.trans (Entails.of_eq (payload_k X B G c (snd x) ()).symm)) (hd.trans (Entails.of_eq (payload_k X B G (nxt c) (rcv x) ()).symm)))
    $$ [Hs Hd HO Ht1 Ht2]
  · isplitr; · iapply (records_inv X B G K (c, snd x)); iexact Hrec
    isplitr; · iapply (records_inv X B G K (nxt c, rcv x)); iexact Hrec
    isplitl [Hs]; · iexact Hs
    isplitl [Hd]; · iexact Hd
    isplitl [HO]; · iexact HO
    isplitl [Ht1]; · iexact Ht1
    isplitr; · iapply (records_reached X B G K (c, snd x)); iexact Hrec
    isplitl [Ht2]; · iexact Ht2
    iapply (records_reached X B G K (nxt c, rcv x)); iexact Hrec
  iintro ⟨Hc1, HO⟩
  iapply (wait X B G K c (snd x) (num x + 1) N rfl (fun Q => (wpE_waitDma2_eq 𝒱₀ (c : Thread nD τ) none Set.univ Q).trans (by rw [hNs]))
      (by rw [lv_snd]; omega) W) $$ [Hc1 HO Ha1]
  · isplitr; · iexact Hrec
    isplitr; · iexact Hlev
    isplitl [Hc1]; · iexact Hc1
    isplitl [HO]; · iexact HO
    iexact Ha1
  iintro ⟨HO, Hz1, Hp1⟩
  iapply (wait X B G K c (rcv x) (num x + 1) N rfl (fun Q => (wpE_waitDma2_eq 𝒱₀ (c : Thread nD τ) none Set.univ Q).trans (by rw [hNd]))
      (by rw [lv_rcv]; omega) (insert (csem (snd x), ()) W)) $$ [Hc2 HO Ha2]
  · isplitr; · iexact Hrec
    isplitr; · iexact Hlev
    isplitl [Hc2]; · iexact Hc2
    isplitl [HO]; · iexact HO
    iexact Ha2
  iintro ⟨HO, Hz2, Hp2⟩
  iapply Hk
  isplitl [Hp1]; · iexact Hp1
  isplitl [Hp2]; · iexact Hp2
  isplitl [HO]; · iexists _; iexact HO
  isplitl [Hz1]; · iexact Hz1
  iexact Hz2

end Cert.Ring

end
-- ==== Proof.Rings.lean ====
/-
  The two rings, transfer by transfer. `rsSt c n` is what device `c` holds once transfers `0` to `n` of the reduce-scatter are over, `agSt c n`
  what it holds before transfer `n` of the all-gather.
-/
module

public import proofs.«01_k».proof.Proof.Transfer

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_head bigSep_rangeSet_last bigSep_rangeSet_empty)

variable {F : FTy → Type} [FloatOps F]

local notation "𝕄" => MT nD τ sig Unit (Elt F) ℕ UU ℕ

/-! ## Cutting and joining runs of slots and of output rows -/

section Cut

variable (c : Dev nD) {a b d : ℕ}

/-- Slots whose contents do not matter. -/
abbrev rvAny (c : Dev nD) (a b : ℕ) : sProp 𝕄 := iprop(∃ f, rvAt (F := F) c (sset a b) f)
abbrev sdAny (c : Dev nD) (a b : ℕ) : sProp 𝕄 := iprop(∃ f, sdAt (F := F) c (sset a b) f)

theorem rv_cut (h : a ≤ b) (h' : b ≤ d) (f : Vec F S31x32x1024 .f32) :
    (rvAt c (sset a d) f : sProp 𝕄) ⊢ iprop(rvAt c (sset a b) f ∗ rvAt c (sset b d) f) := by
  rw [sset_split h h']; exact (pointsTo_union (sset_disjoint a b d)).1
theorem sd_cut (h : a ≤ b) (h' : b ≤ d) (f : Vec F S31x32x1024 .f32) :
    (sdAt c (sset a d) f : sProp 𝕄) ⊢ iprop(sdAt c (sset a b) f ∗ sdAt c (sset b d) f) := by
  rw [sset_split h h']; exact (pointsTo_union (sset_disjoint a b d)).1
theorem rv_join (h : a ≤ b) (h' : b ≤ d) (f g : Vec F S31x32x1024 .f32) :
    iprop(rvAt c (sset a b) f ∗ rvAt c (sset b d) g) ⊢ (rvAny c a d : sProp 𝕄) := by
  refine (pointsTo_join (sset_disjoint a b d)).trans ?_
  rw [← sset_split h h']
  iintro H; iexists _; iexact H
theorem sd_join (h : a ≤ b) (h' : b ≤ d) (f g : Vec F S31x32x1024 .f32) :
    iprop(sdAt c (sset a b) f ∗ sdAt c (sset b d) g) ⊢ (sdAny c a d : sProp 𝕄) := by
  refine (pointsTo_join (sset_disjoint a b d)).trans ?_
  rw [← sset_split h h']
  iintro H; iexists _; iexact H
theorem o_cut (e : Dev nD) (h : a ≤ b) (h' : b ≤ d) (f : Vec F S1024x1024 .f32) :
    (oAt c (oset e a d) f : sProp 𝕄) ⊢ iprop(oAt c (oset e a b) f ∗ oAt c (oset e b d) f) := by
  rw [oset_split e h h']; exact (pointsTo_union (oset_disjoint e a b d)).1
theorem o_join (e : Dev nD) (h : a ≤ b) (h' : b ≤ d) (f : Vec F S1024x1024 .f32) :
    iprop(oAt c (oset e a b) f ∗ oAt c (oset e b d) f) ⊢ (oAt c (oset e a d) f : sProp 𝕄) := by
  rw [oset_split e h h']; exact (pointsTo_union (oset_disjoint e a b d)).2

/-- A slot's own elements, as a run of one. -/
theorem rv_pts (h : Fin 31) (n : ℕ) (e : h.val = n) (f : Vec F S31x32x1024 .f32) :
    ((slot rvM h).view.loc (c : Thread nD τ) ↦[(slot rvM h).view.set]{fullShare} f : sProp 𝕄) = rvAt c (sset n (n + 1)) f := by rw [rv_slot_set, e]
theorem sd_pts (h : Fin 31) (n : ℕ) (e : h.val = n) (f : Vec F S31x32x1024 .f32) :
    ((slot sdM h).view.loc (c : Thread nD τ) ↦[(slot sdM h).view.set]{fullShare} f : sProp 𝕄) = sdAt c (sset n (n + 1)) f := by rw [sd_slot_set, e]
theorem o_pts (e : Dev nD) (h : Fin 31) (f : Vec F S1024x1024 .f32) :
    ((oSlice e h).view.loc (c : Thread nD τ) ↦[(oSlice e h).view.set]{fullShare} f : sProp 𝕄) = oAt c (oset e h.val (h.val + 1)) f := by rw [oSlice_set]

theorem slot_load (h : Fin 31) (n : ℕ) (e : h.val = n) : rvM.view.setOn (slotR h).toLoadRect.set ⊆ sset n (n + 1) := by
  subst e; rw [← slotR_set]; exact Finset.subset_of_eq Finset.map_refl
theorem own_load : oM.view.setOn (own c).toLoadRect.set ⊆ oset c 0 1 := by
  rw [← own_set]; exact Finset.subset_of_eq Finset.map_refl
theorem own_store : (oM.access (own c)).setOn Finset.univ ⊆ oset c 0 1 := by
  rw [View.setOn_univ, ← own_set]; exact Finset.subset_of_eq (View.set_slice_whole _ _)

end Cut

variable (X : Dev nD → Vec F S1x1024x1024 .f32) (B : Dev nD → Vec F S1024x1024 .f32) (G : Dev nD → Vec F S1024 .f32)
variable (K : Dev nD × Cell → ℕ)

/-- The transfers of a ring still to come, and those over. -/
abbrev kits (c : Dev nD) (p : Bool) (n : ℕ) : sProp 𝕄 := bigSep (rangeSet 31 n 31) fun h => kit (F := F) c (p, h)
abbrev closeds (c : Dev nD) (p : Bool) (n : ℕ) : sProp 𝕄 := bigSep (rangeSet 31 0 n) fun h => closed (F := F) c (p, h)

theorem kits_head (c : Dev nD) (p : Bool) (h : Fin 31) (n : ℕ) (e : h.val = n) : (kits c p n : sProp 𝕄) = iprop(kit c (p, h) ∗ kits c p (n + 1)) := by
  subst e; exact bigSep_rangeSet_head h.isLt h.isLt
theorem closeds_last (c : Dev nD) (p : Bool) (h : Fin 31) (n : ℕ) (e : h.val = n) : (closeds c p (n + 1) : sProp 𝕄) = iprop(closed c (p, h) ∗ closeds c p n) := by
  subst e; exact bigSep_rangeSet_last (Nat.succ_pos _) h.isLt

/-- What the waits of each ring hand over, by the transfer's number. -/
theorem pay_snd_rs (c : Dev nD) (h : Fin 31) (n : ℕ) (e : h.val = n) (hn : h ≠ 0) : (pay X B G c (snd (false, h)) : sProp 𝕄) = sdAny c n (n + 1) := by
  subst e; exact if_neg hn
theorem pay_snd_first (c : Dev nD) : (pay X B G c (snd (false, 0)) : sProp 𝕄) = xAt c (xFirst c).view.set (X c) := by
  dsimp only [pay, snd]; rw [if_pos rfl]
theorem pay_rcv_rs (c : Dev nD) (h : Fin 31) (n : ℕ) (e : h.val = n) :
    (pay X B G c (rcv (false, h)) : sProp 𝕄) = rvAt c (sset n (n + 1)) (spread (sent X n (prv c))) := by subst e; rfl
theorem pay_snd_ag (c : Dev nD) (h : Fin 31) : (pay X B G c (snd (true, h)) : sProp 𝕄) = oAt c (oset c h.val (h.val + 1)) (outF X B G) := rfl
theorem pay_rcv_ag (c : Dev nD) (h : Fin 31) : (pay X B G c (rcv (true, h)) : sProp 𝕄) = oAt c (oset c (h.val + 1) (h.val + 2)) (outF X B G) := rfl

/-! ## The reduce-scatter -/

/-- After transfers `0` to `n`: the newest received slot holds what the left neighbour sent last. -/
def rsSt (c : Dev nD) (n : ℕ) : sProp 𝕄 :=
  iprop(ow c (n + 1) ∗ xAt c Finset.univ (X c) ∗ sdAny c 0 31 ∗ rvAny c 0 n ∗ rvAt c (sset n (n + 1)) (spread (sent X n (prv c))) ∗ rvAny (nxt c) (n + 1) 31
    ∗ kits c false (n + 1) ∗ closeds c false (n + 1))

/-- What lands in the right neighbour's slot is what it will be paid. -/
theorem landed_rv (c : Dev nD) (h : Fin 31) (fd : Vec F S31x32x1024 .f32) (w : Vec F S32x1024 .f32) (hw : w = sent X h.val c) :
    ((slot rvM h).view.loc (nxt c : Thread nD τ) ↦[(slot rvM h).view.set]{fullShare} ((slot rvM h).view.write (Elt F) fd w Finset.univ) : sProp 𝕄)
      ⊢ pay X B G (nxt c) (rcv (false, h)) := by
  subst hw
  refine Entails.of_eq ((rv_pts (nxt c) h h.val rfl _).trans ?_)
  refine (pointsTo_congr (slot_write h fd (sent X h.val c))).trans ?_
  show _ = (rvAt (nxt c) (sset h.val (h.val + 1)) (spread (sent X h.val (prv (nxt c)))) : sProp 𝕄)
  rw [prv_nxt]

/-- The first transfer. -/
theorem rs_first (c : Dev nD) {k : KProg F} {Q : PUnit → sProp 𝕄} :
    iprop(records X B G K ∗ levAts L lv ∗ ow c 0 ∗ xAt c Finset.univ (X c) ∗ sdAny c 0 31 ∗ rvAny (nxt c) 0 31 ∗ kits c false 0)
      ⊢ iprop((rsSt X c 0 -∗ wpc c k Q) -∗ wpc c (rsFirst c k) Q) := by
  iintro ⟨#Hrec, #Hlev, HO, Hx, Hsd, ⟨%fd, Hrv⟩, Hkits⟩ Hk
  icases (Entails.of_eq (kits_head c false 0 0 rfl)) $$ Hkits with ⟨Hkit, Hkits⟩
  icases (rv_cut (nxt c) (a := 0) (b := 1) (d := 31) (by decide) (by decide) fd) $$ Hrv with ⟨Hd, Hrv⟩
  icases (pointsTo_split_subset (Finset.subset_univ (xFirst c).view.set)).1 $$ Hx with ⟨Hs, Hx⟩
  iapply (xfer X B G K c (right c) (right_eq c) (false, 0) (xFirst c) (slot rvM 0) (X c) fd rfl rfl (Entails.of_eq (pay_snd_first X B G c).symm)
      (landed_rv X B G c 0 fd _ (first_read X c))) $$ [HO Hs Hd Hkit]
  · isplitr; · iexact Hrec
    isplitr; · iexact Hlev
    isplitl [Hs]; · iexact Hs
    isplitl [Hd]; · iapply (Entails.of_eq (rv_pts (nxt c) 0 0 rfl fd).symm); iexact Hd
    isplitl [HO]; · iexact HO
    iexact Hkit
  rw [pay_snd_first, pay_rcv_rs X B G c 0 0 rfl]
  iintro ⟨Hs, Hr, HO, Hcl⟩
  iapply Hk
  unfold rsSt
  isplitl [HO]; · iexact HO
  isplitl [Hs Hx]
  · iapply (pointsTo_split_subset (Finset.subset_univ (xFirst c).view.set)).2
    isplitl [Hs]; · iexact Hs
    iexact Hx
  isplitl [Hsd]; · iexact Hsd
  isplitr
  · iexists fd; rw [sset_empty]; iapply (Entails.of_eq (pointsTo_empty (Val := Elt F) (ℓ := (c : Thread nD τ).loc cc0_scratch0)).symm); iempintro
  isplitl [Hr]; · iexact Hr
  isplitl [Hrv]; · iexists fd; iexact Hrv
  isplitl [Hkits]; · iexact Hkits
  rw [closeds_last c false 0 0 rfl]
  isplitl [Hcl]; · iexact Hcl
  rw [show (closeds c false 0 : sProp 𝕄) = iprop(emp) from bigSep_rangeSet_empty le_rfl]
  iempintro

/-- A later transfer: from the state before to the state after. -/
theorem rs_next (c : Dev nD) (h : Fin 30) {k : KProg F} {Q : PUnit → sProp 𝕄} :
    iprop(records X B G K ∗ levAts L lv ∗ rsSt X c h.val) ⊢ iprop((rsSt X c (h.val + 1) -∗ wpc c k Q) -∗ wpc c (rsNext c h k) Q) := by
  have hh := h.isLt
  have hnum : num (false, h.succ) = h.val + 1 := Nat.zero_add _
  unfold rsSt
  iintro ⟨#Hrec, #Hlev, HO, Hx, ⟨%fs, Hsd⟩, ⟨%f0, Hrv0⟩, Hrv, ⟨%fd, HrvN⟩, Hkits, Hcls⟩ Hk
  unfold rsNext
  iapply (wp_load 𝒱₀ (c : Thread nD τ) none Set.univ (m := rvM) (slot_load h.castSucc h.val rfl)) $$ Hrv; iintro Hrv
  iapply (wp_load 𝒱₀ (c : Thread nD τ) none Set.univ (m := xM) (Finset.subset_univ _)) $$ Hx; iintro Hx
  iapply (wp_load 𝒱₀ (c : Thread nD τ) none Set.univ (m := sdM) (by rw [sset_all]; exact Finset.subset_univ _)) $$ Hsd; iintro Hsd
  iapply (wp_store 𝒱₀ (c : Thread nD τ) none Set.univ (m := sdM) (r := slotR h.succ) (Mk := Finset.univ) (by rw [sset_all]; exact Finset.subset_univ _)) $$ Hsd
  iintro Hsd
  icases (sd_cut c (a := 0) (b := h.val + 1) (d := 31) (by omega) (by omega) _) $$ Hsd with ⟨Hsd0, Hsd⟩
  icases (sd_cut c (a := h.val + 1) (b := h.val + 2) (d := 31) (by omega) (by omega) _) $$ Hsd with ⟨Hsd, Hsd1⟩
  icases (rv_cut (nxt c) (a := h.val + 1) (b := h.val + 2) (d := 31) (by omega) (by omega) fd) $$ HrvN with ⟨Hd, HrvN⟩
  icases (Entails.of_eq (kits_head c false h.succ (h.val + 1) rfl)) $$ Hkits with ⟨Hkit, Hkits⟩
  iapply (xfer X B G K c (right c) (right_eq c) (false, h.succ) (slot sdM h.succ) (slot rvM h.succ) _ fd rfl rfl
      (by rw [sd_pts c h.succ (h.val + 1) rfl, pay_snd_rs X B G c h.succ (h.val + 1) rfl (Fin.succ_ne_zero h)]; iintro H; iexists _; iexact H)
      (landed_rv X B G c h.succ fd _ (next_read X c h fs))) $$ [HO Hsd Hd Hkit]
  · isplitr; · iexact Hrec
    isplitr; · iexact Hlev
    isplitl [Hsd]; · iapply (Entails.of_eq (sd_pts c h.succ (h.val + 1) rfl _).symm); iexact Hsd
    isplitl [Hd]; · iapply (Entails.of_eq (rv_pts (nxt c) h.succ (h.val + 1) rfl fd).symm); iexact Hd
    isplitl [HO]
    · rw [hnum]; iexact HO
    iexact Hkit
  rw [pay_snd_rs X B G c h.succ (h.val + 1) rfl (Fin.succ_ne_zero h), pay_rcv_rs X B G c h.succ (h.val + 1) rfl, hnum]
  iintro ⟨⟨%fs', Hs⟩, Hr, HO, Hcl⟩
  iapply Hk
  isplitl [HO]; · iexact HO
  isplitl [Hx]; · iexact Hx
  isplitl [Hsd0 Hs Hsd1]
  · icases (sd_join c (a := 0) (b := h.val + 1) (d := h.val + 2) (by omega) (by omega) _ fs') $$ [Hsd0 Hs] with ⟨%f2, Hs⟩
    · isplitl [Hsd0]; · iexact Hsd0
      iexact Hs
    iapply (sd_join c (a := 0) (b := h.val + 2) (d := 31) (by omega) (by omega) f2 _)
    isplitl [Hs]; · iexact Hs
    iexact Hsd1
  isplitl [Hrv0 Hrv]
  · iapply (rv_join c (a := 0) (b := h.val) (d := h.val + 1) (by omega) (by omega) f0 _)
    isplitl [Hrv0]; · iexact Hrv0
    iexact Hrv
  isplitl [Hr]; · iexact Hr
  isplitl [HrvN]; · iexists fd; iexact HrvN
  isplitl [Hkits]; · iexact Hkits
  iapply (Entails.of_eq (closeds_last c false h.succ (h.val + 1) rfl).symm)
  isplitl [Hcl]; · iexact Hcl
  iexact Hcls

/-- All of them up to number `n`. -/
theorem rs_run (c : Dev nD) (n : ℕ) (hn : n ≤ 30) {Q : PUnit → sProp 𝕄} : ∀ k : KProg F,
    iprop(records X B G K ∗ levAts L lv ∗ rsSt X c 0) ⊢ iprop((rsSt X c n -∗ wpc c k Q) -∗ wpc c (rsRun c n hn k) Q) := by
  induction n with
  | zero =>
    intro k
    iintro ⟨-, -, H⟩ Hk
    unfold rsRun
    iapply Hk; iexact H
  | succ n ih =>
    intro k
    iintro ⟨#Hrec, #Hlev, H⟩ Hk
    unfold rsRun
    iapply (ih (Nat.le_of_succ_le hn) (rsNext c ⟨n, hn⟩ k)) $$ [H]
    · isplitr; · iexact Hrec
      isplitr; · iexact Hlev
      iexact H
    iintro H
    iapply (rs_next X B G K c ⟨n, hn⟩) $$ [H]
    · isplitr; · iexact Hrec
      isplitr; · iexact Hlev
      iexact H
    iexact Hk

/-! ## The all-gather -/

/-- Before transfer `n`: the rows numbered `0` to `n` are there. -/
def agSt (c : Dev nD) (n : ℕ) : sProp 𝕄 :=
  iprop(ow c (31 + n) ∗ oAt c (oset c 0 (n + 1)) (outF X B G) ∗ (∃ f, oAt (F := F) (nxt c) (oset c n 31) f) ∗ kits c true n ∗ closeds c true n)

/-- What lands in the right neighbour's output is what it will be paid. -/
theorem landed_o (c : Dev nD) (h : Fin 31) (fd : Vec F S1024x1024 .f32) :
    ((oSlice c h).view.loc (nxt c : Thread nD τ) ↦[(oSlice c h).view.set]{fullShare}
        ((oSlice c h).view.write (Elt F) fd ((oSlice c h).view.read (Elt F) (outF X B G)) Finset.univ) : sProp 𝕄)
      ⊢ pay X B G (nxt c) (rcv (true, h)) := by
  refine Entails.of_eq ?_
  rw [View.write_read_eq_piecewise, View.setOn_univ]
  refine (pointsTo_congr (g := outF X B G) fun i hi => Finset.piecewise_eq_of_mem _ _ _ hi).trans ?_
  refine (o_pts (nxt c) c h _).trans ?_
  show _ = (oAt (nxt c) (oset (nxt c) (h.val + 1) (h.val + 2)) (outF X B G) : sProp 𝕄)
  rw [← oset_prv (nxt c) (a := h.val) (b := h.val + 1) h.isLt, prv_nxt]

theorem ag_step (c : Dev nD) (h : Fin 31) {k : KProg F} {Q : PUnit → sProp 𝕄} :
    iprop(records X B G K ∗ levAts L lv ∗ agSt X B G c h.val) ⊢ iprop((agSt X B G c (h.val + 1) -∗ wpc c k Q) -∗ wpc c (agStep c h k) Q) := by
  have hh := h.isLt
  unfold agSt
  iintro ⟨#Hrec, #Hlev, HO, Ho, ⟨%fd, HoN⟩, Hkits, Hcls⟩ Hk
  unfold agStep
  icases (o_cut c c (a := 0) (b := h.val) (d := h.val + 1) (by omega) (by omega) _) $$ Ho with ⟨Ho0, Ho⟩
  icases (o_cut (nxt c) c (a := h.val) (b := h.val + 1) (d := 31) (by omega) (by omega) fd) $$ HoN with ⟨Hd, HoN⟩
  icases (Entails.of_eq (kits_head c true h h.val rfl)) $$ Hkits with ⟨Hkit, Hkits⟩
  iapply (xfer X B G K c (right c) (right_eq c) (true, h) (oSlice c h) (oSlice c h) (outF X B G) fd rfl rfl
      (Entails.of_eq (o_pts c c h _)) (landed_o X B G c h fd)) $$ [HO Ho Hd Hkit]
  · isplitr; · iexact Hrec
    isplitr; · iexact Hlev
    isplitl [Ho]; · iapply (Entails.of_eq (o_pts c c h _).symm); iexact Ho
    isplitl [Hd]; · iapply (Entails.of_eq (o_pts (nxt c) c h fd).symm); iexact Hd
    isplitl [HO]; · iexact HO
    iexact Hkit
  rw [pay_snd_ag, pay_rcv_ag]
  iintro ⟨Hs, Hr, HO, Hcl⟩
  iapply Hk
  isplitl [HO]; · iexact HO
  isplitl [Ho0 Hs Hr]
  · iapply (o_join c c (a := 0) (b := h.val + 1) (d := h.val + 2) (by omega) (by omega) (outF X B G))
    isplitl [Ho0 Hs]
    · iapply (o_join c c (a := 0) (b := h.val) (d := h.val + 1) (by omega) (by omega) (outF X B G))
      isplitl [Ho0]; · iexact Ho0
      iexact Hs
    iexact Hr
  isplitl [HoN]; · iexists fd; iexact HoN
  isplitl [Hkits]; · iexact Hkits
  iapply (Entails.of_eq (closeds_last c true h h.val rfl).symm)
  isplitl [Hcl]; · iexact Hcl
  iexact Hcls

theorem ag_run (c : Dev nD) (n : ℕ) (hn : n ≤ 31) {Q : PUnit → sProp 𝕄} : ∀ k : KProg F,
    iprop(records X B G K ∗ levAts L lv ∗ agSt X B G c 0) ⊢ iprop((agSt X B G c n -∗ wpc c k Q) -∗ wpc c (agRun c n hn k) Q) := by
  induction n with
  | zero =>
    intro k
    iintro ⟨-, -, H⟩ Hk
    unfold agRun
    iapply Hk; iexact H
  | succ n ih =>
    intro k
    iintro ⟨#Hrec, #Hlev, H⟩ Hk
    unfold agRun
    iapply (ih (Nat.le_of_succ_le hn) (agStep c ⟨n, hn⟩ k)) $$ [H]
    · isplitr; · iexact Hrec
      isplitr; · iexact Hlev
      iexact H
    iintro H
    iapply (ag_step X B G K c ⟨n, hn⟩) $$ [H]
    · isplitr; · iexact Hrec
      isplitr; · iexact Hlev
      iexact H
    iexact Hk

end Cert.Ring

end
-- ==== Proof.Body.lean ====
/-
  The whole body on one device: the handshake with its neighbours, the reduce-scatter, the device's own rows, the all-gather.
-/
module

public import proofs.«01_k».proof.Proof.Rings

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_rangeSet_empty)

variable {F : FTy → Type} [FloatOps F]

local notation "𝕄" => MT nD τ sig Unit (Elt F) ℕ UU ℕ

variable (X : Dev nD → Vec F S1x1024x1024 .f32) (B : Dev nD → Vec F S1024x1024 .f32) (G : Dev nD → Vec F S1024 .f32)
variable (K : Dev nD × Cell → ℕ)

/-- What the all-gather does not touch. -/
def rest (c : Dev nD) : sProp 𝕄 :=
  iprop(xAt c Finset.univ (X c) ∗ bAt c Finset.univ (B c) ∗ gAt c Finset.univ (G c) ∗ sdAny c 0 31 ∗ rvAny c 0 31 ∗ closeds c false 31)

/-- Between the rings: the device's own rows are computed and stored. -/
theorem mid_step (c : Dev nD) {k : KProg F} {Q : PUnit → sProp 𝕄} :
    iprop(rsSt X c 30 ∗ bAt c Finset.univ (B c) ∗ gAt c Finset.univ (G c) ∗ (∃ f, oAt (F := F) c (oset c 0 1) f) ∗ (∃ f, oAt (F := F) (nxt c) (oset c 0 31) f)
        ∗ kits c true 0)
      ⊢ iprop(((rest X B G c ∗ agSt X B G c 0) -∗ wpc c k Q) -∗ wpc c (mid c k) Q) := by
  unfold rsSt rest agSt
  iintro ⟨⟨HO, Hx, Hsd, ⟨%f0, Hrv0⟩, Hrv, HrvN, Hkits0, Hcls⟩, Hb, Hg, ⟨%fo, Ho⟩, HoN, Hkits⟩ Hk
  unfold mid
  iapply (wp_load 𝒱₀ (c : Thread nD τ) none Set.univ (m := rvM) (slot_load 30 30 rfl)) $$ Hrv; iintro Hrv
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_load 𝒱₀ (c : Thread nD τ) none Set.univ (m := gM) (Finset.subset_univ _)) $$ Hg; iintro Hg
  iapply (wp_load 𝒱₀ (c : Thread nD τ) none Set.univ (m := oM) (own_load c)) $$ Ho; iintro Ho
  iapply (wp_store 𝒱₀ (c : Thread nD τ) none Set.univ (m := oM) (r := own c) (Mk := Finset.univ) (own_store c)) $$ Ho
  iintro Ho
  iapply Hk
  isplitl [Hx Hb Hg Hsd Hrv0 Hrv Hcls]
  · isplitl [Hx]; · iexact Hx
    isplitl [Hb]; · iexact Hb
    isplitl [Hg]; · iexact Hg
    isplitl [Hsd]; · iexact Hsd
    isplitl [Hrv0 Hrv]
    · iapply (rv_join c (a := 0) (b := 30) (d := 31) (by decide) (by decide) f0 _)
      isplitl [Hrv0]; · iexact Hrv0
      iexact Hrv
    iexact Hcls
  isplitl [HO]; · iexact HO
  isplitl [Ho]
  · iapply (Entails.of_eq (pointsTo_congr (own_write X B G c fo))); iexact Ho
  isplitl [HoN]; · iexact HoN
  isplitl [Hkits]; · iexact Hkits
  rw [show (closeds c true 0 : sProp 𝕄) = iprop(emp) from bigSep_rangeSet_empty le_rfl]
  iempintro

/-- The handshake: the device tells its left neighbour that it is in the kernel, lending its receive slots and all but its own rows of its
    output, and waits until its right neighbour has said so. -/
theorem shake (c n : Dev nD) (hn : n = prv c) (W : Waits sig Unit) {k : KProg F} {Q : PUnit → sProp 𝕄} :
    iprop(records X B G K ∗ levAts L lv ∗ owes (c : Thread nD τ) (owe₀ c) W ∗ dutyTok ER (kcell (prv c, none)) 0 () ∗ atPos ER (kcell (c, none)) 0 ∅ 0
        ∗ cred (tallyAt (kcell (c, none)) () 1) ∗ rvAny c 0 31 ∗ (∃ f, oAt (F := F) c (oset c 1 32) f))
      ⊢ iprop(((ow c 0 ∗ semVal (kcell (c, none)) 0 ∗ rvAny (nxt c) 0 31 ∗ (∃ f, oAt (F := F) (nxt c) (oset c 0 31) f)) -∗ wpc c k Q)
          -∗ wpc c (Prog.bind (semSignalWord n barS 1#32) fun _ => Prog.bind (semWaitWord barS 1#32) fun _ => k) Q) := by
  subst hn
  simp only [semSignalWord, semWaitWord, Prog.lift, Prog.bind_op, Prog.bind_ret, Prog.pure_eq_ret]
  iintro ⟨#Hrec, #Hlev, HO, Ht, Hat, Hc, Hrv, Ho⟩ Hk
  iapply (Rounds.wp_signal 𝒱₀ ER (Rd X B G) (c : Thread nD τ) none (dst := (prv c : Thread nD τ)) (κ := K (prv c, none))
      (d := ()) (mem_duties_k X B G (prv c) none) ((amount_k X B G (prv c) none ()).trans (by decide)) () (owe c 0) rfl) $$ [HO Ht Hrv Ho]
  · isplitr; · iapply (records_inv X B G K (prv c, none)); iexact Hrec
    isplitl [HO]; · iexact HO
    isplitl [Ht]; · iexact Ht
    isplitl [Hrv Ho]
    · rw [payload_k X B G (prv c) none]
      unfold pay
      rw [nxt_prv, oset_prv c (a := 0) (b := 31) le_rfl]
      isplitl [Hrv]; · iexact Hrv
      iexact Ho
    iapply (records_reached X B G K (prv c, none)); iexact Hrec
  iintro HO
  iapply (wait X B G K c none 0 1 rfl (fun Q => wpE_semWait_eq 𝒱₀ (c : Thread nD τ) none Set.univ Q) (by rw [lv_bar]; decide) W) $$ [Hc HO Hat]
  · isplitr; · iexact Hrec
    isplitr; · iexact Hlev
    isplitl [Hc]; · iexact Hc
    isplitl [HO]; · iexact HO
    iexact Hat
  unfold pay
  iintro ⟨HO, Hz, Hrv, Ho⟩
  iapply Hk
  unfold ow
  isplitl [HO]; · iexists _; iexact HO
  isplitl [Hz]; · iexact Hz
  isplitl [Hrv]; · iexact Hrv
  iexact Ho

/-- What the body starts from: the debts, what the handshake needs, the staged blocks, the slots, and every transfer's kit. -/
def start (c : Dev nD) (W : Waits sig Unit) : sProp 𝕄 :=
  iprop(records X B G K ∗ levAts L lv ∗ owes (c : Thread nD τ) (owe₀ c) W ∗ dutyTok ER (kcell (prv c, none)) 0 () ∗ atPos ER (kcell (c, none)) 0 ∅ 0
    ∗ cred (tallyAt (kcell (c, none)) () 1) ∗ kits c false 0 ∗ kits c true 0
    ∗ rvAny c 0 31 ∗ sdAny c 0 31 ∗ xAt c Finset.univ (X c) ∗ bAt c Finset.univ (B c) ∗ gAt c Finset.univ (G c) ∗ ∃ f, oAt (F := F) c Finset.univ f)

/-- What it ends with: nothing owed, every semaphore at zero, the inputs as they were and the output computed. -/
def finish (c : Dev nD) : sProp 𝕄 :=
  iprop(ow c 62 ∗ rest X B G c ∗ closeds c true 31 ∗ semVal (kcell (c, none)) 0 ∗ oAt c Finset.univ (outF X B G))

/-- The body, from the one to the other. -/
theorem body_run (c : Dev nD) (W : Waits sig Unit) {Q : PUnit → sProp 𝕄} :
    iprop(start X B G K c W ∗ (finish X B G c -∗ Q ⟨⟩)) ⊢ wpc c (bodyOf c) Q := by
  unfold start finish bodyOf
  iintro ⟨⟨#Hrec, #Hlev, HO, Ht, Hat, Hc, Hk0, Hk1, Hrv, Hsd, Hx, Hb, Hg, ⟨%fo, Ho⟩⟩, Hk⟩
  icases (Entails.of_eq (show (oAt c Finset.univ fo : sProp 𝕄) = oAt c (oset c 0 32) fo by rw [oset_all])) $$ Ho with Ho
  icases (o_cut c c (a := 0) (b := 1) (d := 32) (by decide) (by decide) fo) $$ Ho with ⟨Ho, HoR⟩
  iapply (shake X B G K c (left c) (left_eq c) W) $$ [HO Ht Hat Hc Hrv HoR]
  · isplitr; · iexact Hrec
    isplitr; · iexact Hlev
    isplitl [HO]; · iexact HO
    isplitl [Ht]; · iexact Ht
    isplitl [Hat]; · iexact Hat
    isplitl [Hc]; · iexact Hc
    isplitl [Hrv]; · iexact Hrv
    iexists fo; iexact HoR
  iintro ⟨HO, Hz, HrvN, HoN⟩
  iapply (rs_first X B G K c) $$ [HO Hx Hsd HrvN Hk0]
  · isplitr; · iexact Hrec
    isplitr; · iexact Hlev
    isplitl [HO]; · iexact HO
    isplitl [Hx]; · iexact Hx
    isplitl [Hsd]; · iexact Hsd
    isplitl [HrvN]; · iexact HrvN
    iexact Hk0
  iintro H
  iapply (rs_run X B G K c 30 le_rfl _) $$ [H]
  · isplitr; · iexact Hrec
    isplitr; · iexact Hlev
    iexact H
  iintro H
  iapply (mid_step X B G c) $$ [H Hb Hg Ho HoN Hk1]
  · isplitl [H]; · iexact H
    isplitl [Hb]; · iexact Hb
    isplitl [Hg]; · iexact Hg
    isplitl [Ho]; · iexists fo; iexact Ho
    isplitl [HoN]; · iexact HoN
    iexact Hk1
  iintro ⟨Hrest, H⟩
  iapply (ag_run X B G K c 31 le_rfl _) $$ [H]
  · isplitr; · iexact Hrec
    isplitr; · iexact Hlev
    iexact H
  unfold agSt
  iintro ⟨HO, Ho, -, -, Hcl⟩
  unfold wpc
  rw [wp_ret]; imodintro
  iapply Hk
  isplitl [HO]; · iexact HO
  isplitl [Hrest]; · iexact Hrest
  isplitl [Hcl]; · iexact Hcl
  isplitl [Hz]; · iexact Hz
  iapply (Entails.of_eq (show (oAt c (oset c 0 32) (outF X B G) : sProp 𝕄) = oAt c Finset.univ (outF X B G) by rw [oset_all])); iexact Ho

end Cert.Ring

end
-- ==== Proof.Deal.lean ====
/-
  What each device is dealt: the ring's ghost state minted, one cell allocated for every semaphore, and the duty tokens moved to the
  devices that pay them.
-/
module

public import proofs.«01_k».proof.Proof.Body

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_univ)

variable {F : FTy → Type} [FloatOps F]

local notation "𝕄" => MT nD τ sig Unit (Elt F) ℕ UU ℕ

variable (X : Dev nD → Vec F S1x1024x1024 .f32) (B : Dev nD → Vec F S1024x1024 .f32) (G : Dev nD → Vec F S1024 .f32)

/-! ## Families over a device's cells -/

/-- A family over the transfers' cells: the send cells and the receive cells. -/
theorem bigSep_ends (Φ : Bool × Xfer → sProp 𝕄) :
    bigSep Finset.univ Φ = iprop(bigSep Finset.univ (fun x : Xfer => Φ (false, x)) ∗ bigSep Finset.univ (fun x : Xfer => Φ (true, x))) := by
  rw [bigSep_univ_prod]; exact bigSep_univ_eq_bigSepL [false, true] (by decide) (by decide) _

/-- A family over a device's cells: the barrier, the send cells, the receive cells. -/
theorem bigSep_cell (Φ : Cell → sProp 𝕄) :
    bigSep Finset.univ Φ = iprop(Φ none ∗ bigSep Finset.univ (fun x : Xfer => Φ (snd x)) ∗ bigSep Finset.univ (fun x : Xfer => Φ (rcv x))) := by
  have e : (Finset.univ : Finset Cell).erase none = Finset.univ.map ⟨some, Option.some_injective _⟩ := by
    ext k; cases k <;> simp
  rw [bigSep_univ_at _ none, e, bigSep_map]
  exact congrArg (fun P => iprop(Φ none ∗ P)) (bigSep_ends fun k => Φ (some k))

/-- A family over the transfers: the reduce-scatter's and the all-gather's. -/
theorem bigSep_xfer (Φ : Xfer → sProp 𝕄) :
    bigSep Finset.univ Φ = iprop(bigSep (rangeSet 31 0 31) (fun h => Φ (false, h)) ∗ bigSep (rangeSet 31 0 31) (fun h => Φ (true, h))) := by
  rw [bigSep_univ_prod, rangeSet_univ]; exact bigSep_univ_eq_bigSepL [false, true] (by decide) (by decide) _

/-! ## Minting -/

def ringCells : Finset (GSem nD τ sig) := Finset.univ.map ⟨kcell, kcell_injective⟩

theorem tok_injective : Function.Injective fun ck : Dev nD × Cell => ((kcell ck, 0, ()) : GSem nD τ sig × ℕ × Unit) :=
  fun _ _ h => kcell_injective (congrArg Prod.fst h)
def ringToks : Finset (GSem nD τ sig × ℕ × Unit) := Finset.univ.map ⟨_, tok_injective⟩

/-- What is minted for device `c`: its cells' states, its positions at them, and their duty tokens. -/
def dealt (c : Dev nD) : sProp 𝕄 :=
  iprop((bigSep Finset.univ fun k : Cell => roundState ER (Rd X B G) (kcell (c, k)) 0)
    ∗ (bigSep Finset.univ fun k : Cell => iprop(atPos ER (kcell (c, k)) 0 ∅ 0 ∗ reached ER (kcell (c, k)) 0))
    ∗ (bigSep Finset.univ fun k : Cell => dutyTok ER (kcell (c, k)) 0 ()))

theorem fund_ring : BI.own (ER (initOf ringCells ringToks)) ⊢ (|==> bigSep Finset.univ (dealt X B G) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Cell => dutyTok ER (kcell (c, k)) 0 () := by
    unfold ringToks; rw [bigSep_map, bigSep_univ_prod]; rfl
  iintro HX
  imod (Rounds.fund ER (Rd X B G) ringCells ringToks) $$ HX with ⟨Hst, Hr, Hat, Htok⟩
  imodintro
  ihave Hst' := (Entails.of_eq (hX fun g => roundState ER (Rd X B G) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores -/

/-- The kernel's own semaphores: the transfers'. -/
abbrev osem (k : Bool × Xfer) : SemLoc sig := csem (some k)

theorem osem_facts : Pipeline.OwnSemFacts spec0 osem :=
  ⟨by decide +kernel, fun _ _ h => Option.some_injective _ (csem_injective h), by decide +kernel⟩

theorem ownSems0_ends (c : Dev nD) : (Pipeline.ownSems0 (Ix := Unit) (Name := ℕ) (U := UU) (Lvl := ℕ) (Val := Elt F) (τ := τ) osem c : sProp 𝕄)
    = iprop(bigSep Finset.univ (fun x : Xfer => semVal (kcell (c, snd x)) 0) ∗ bigSep Finset.univ (fun x : Xfer => semVal (kcell (c, rcv x)) 0)) :=
  bigSep_ends fun k => semVal (kcell (c, some k)) 0

theorem unscopedSems0_bar (c : Dev nD) : (unscopedSems0 c : sProp 𝕄) = semVal (kcell (c, none)) 0 := by
  unfold unscopedSems0; rw [bigSep_eq_bigSepL_of_eq [SemLoc.reg barS] (by decide) (by decide)]; rfl

/-- After the body the transfers' semaphores are the kernel's own, at zero. -/
theorem closeds_own (c : Dev nD) : (iprop(closeds (F := F) c false 31 ∗ closeds (F := F) c true 31) : sProp 𝕄)
    = Pipeline.ownSems0 (Ix := Unit) (Name := ℕ) (U := UU) (Lvl := ℕ) (Val := Elt F) (τ := τ) osem c := by
  rw [ownSems0_ends]
  exact (bigSep_xfer (F := F) fun x => closed c x).symm.trans (bigSep_sep' _ _ _)

theorem all_sems (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_ends, unscopedSems0_bar, bigSep_cell]
  iintro ⟨H, HB⟩
  isplitl [HB]; · iexact HB
  iexact H

/-- One device's cells allocated. -/
theorem alloc_cells (c : Dev nD) :
    iprop(Pipeline.ownSems0 (Ix := Unit) (Name := ℕ) (U := UU) (Lvl := ℕ) (Val := Elt F) (τ := τ) osem c ∗ unscopedSems0 c ∗ dealt X B G c)
      ⊢ |={Set.univ}=> iprop((bigSep Finset.univ fun k : Cell => iprop(∃ κ : ℕ, cellInv ER (Rd X B G) κ (kcell (c, k))))
          ∗ (bigSep Finset.univ fun k : Cell => iprop(atPos ER (kcell (c, k)) 0 ∅ 0 ∗ reached ER (kcell (c, k)) 0))
          ∗ (bigSep Finset.univ fun k : Cell => dutyTok ER (kcell (c, k)) 0 ())) := by
  unfold dealt
  iintro ⟨Hos, Hus, Hst, Hat, Htok⟩
  ihave Hv := (all_sems (F := F) c) $$ [Hos Hus]
  · isplitl [Hos] <;> iassumption
  imod (show iprop((bigSep Finset.univ fun k : Cell => semVal (kcell (c, k)) 0) ∗ bigSep Finset.univ fun k : Cell => roundState ER (Rd X B G) (kcell (c, k)) 0)
      ⊢ (|={Set.univ}=> bigSep Finset.univ fun k : Cell => iprop(∃ κ : ℕ, cellInv ER (Rd X B G) κ (kcell (c, k))) : sProp 𝕄) from by
        rw [← bigSep_sep']
        exact (bigSep_mono fun k _ => (Rounds.body_intro ER (Rd X B G) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Around the ring -/

/-- The duty tokens of the duties device `c` pays. -/
def pays (c : Dev nD) : sProp 𝕄 :=
  iprop(dutyTok ER (kcell (prv c, none)) 0 () ∗ bigSep Finset.univ (fun x : Xfer => dutyTok ER (kcell (c, snd x)) 0 ())
    ∗ bigSep Finset.univ (fun x : Xfer => dutyTok ER (kcell (nxt c, rcv x)) 0 ()))
/-- Device `c`'s positions at its own cells. -/
def places (c : Dev nD) : sProp 𝕄 :=
  iprop(atPos ER (kcell (c, none)) 0 ∅ 0 ∗ bigSep Finset.univ (fun x : Xfer => atPos ER (kcell (c, snd x)) 0 ∅ 0)
    ∗ bigSep Finset.univ (fun x : Xfer => atPos ER (kcell (c, rcv x)) 0 ∅ 0))
/-- What device `c` holds of the ring's ghost state when the region begins. -/
def held (c : Dev nD) : sProp 𝕄 := iprop(∃ K, records X B G K ∗ places c ∗ pays c)

theorem toks_around : (bigSep Finset.univ fun c : Dev nD => bigSep Finset.univ fun k : Cell => (dutyTok ER (kcell (c, k)) 0 () : sProp 𝕄))
    ⊢ bigSep Finset.univ fun c : Dev nD => pays c := by
  unfold pays
  rw [bigSep_congr (s := Finset.univ) (fun (c : Dev nD) _ => bigSep_cell fun k => (dutyTok ER (kcell (c, k)) 0 () : sProp 𝕄)),
    bigSep_sep', bigSep_sep', bigSep_sep', bigSep_sep',
    bigSep_univ_equiv around.symm (fun c : Dev nD => (dutyTok ER (kcell (c, none)) 0 () : sProp 𝕄)),
    bigSep_univ_equiv around (fun c : Dev nD => bigSep Finset.univ fun x : Xfer => (dutyTok ER (kcell (c, rcv x)) 0 () : sProp 𝕄))]
  exact Entails.rfl

theorem places_all : (bigSep Finset.univ fun c : Dev nD => bigSep Finset.univ fun k : Cell => (atPos ER (kcell (c, k)) 0 ∅ 0 : sProp 𝕄))
    ⊢ bigSep Finset.univ fun c : Dev nD => places c :=
  bigSep_mono fun c _ => Entails.of_eq (bigSep_cell fun k => (atPos ER (kcell (c, k)) 0 ∅ 0 : sProp 𝕄))

/-- A family that each of `S` turns into another by the help of one persistent fact. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (Rd X B G) κ (kcell (c, k))))
          ∗ (bigSep Finset.univ fun k : Cell => iprop(atPos ER (kcell (c, k)) 0 ∅ 0 ∗ reached ER (kcell (c, k)) 0))
          ∗ (bigSep Finset.univ fun k : Cell => dutyTok ER (kcell (c, k)) 0 ())) : sProp 𝕄)
      ⊢ bigSep Finset.univ (held X B G) := by
  rw [bigSep_sep', bigSep_sep', ← bigSep_univ_prod (fun ck : Dev nD × Cell => iprop(∃ κ : ℕ, cellInv ER (Rd X B G) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd X B G) κ (kcell ck) : sProp 𝕄))) $$ HI
  icases HK with ⟨%K, #HI⟩
  ihave Htk := (toks_around (F := F)) $$ Htok
  iapply (bigSep_with (R := records X B G K) (Φ := fun c => iprop(places c ∗ pays c)) fun c _ => by
    unfold held; iintro H; iexists K; iexact H)
  isplitr
  · unfold records; isplitl; · iexact HI
    iexact HR
  · rw [bigSep_sep']
    isplitl [Hat]
    · iapply (places_all (F := F)); iexact Hat
    iexact Htk

/-- The launch's one global step: every device's cells allocated together. -/
theorem glob : (bigSep Finset.univ fun c => iprop(Pipeline.ownSems0 (Ix := Unit) (Name := ℕ) (U := UU) (Lvl := ℕ) (Val := Elt F) (τ := τ) osem c ∗ unscopedSems0 c ∗ dealt X B G c) : sProp 𝕄)
    ⊢ |={Set.univ}=> bigSep Finset.univ (held X B G) :=
  ((bigSep_mono fun c _ => alloc_cells X B G c).trans (bigSep_fupd _ _)).trans (BI.fupd_mono (regroup X B G))

/-! ## The launch credit -/

theorem nxt_eq_iff {d c : Dev nD} : Iff (nxt d = c) (d = prv c) :=
  ⟨fun h => by rw [← h, prv_nxt], fun h => by rw [h, nxt_prv]⟩
theorem prv_eq_iff {d c : Dev nD} : Iff (prv d = c) (d = nxt c) :=
  ⟨fun h => by rw [← h, nxt_prv], fun h => by rw [h, prv_nxt]⟩

/-- The receive credits device `d` owes, at one cell. -/
theorem owe_at (d : Dev nD) (g : GSem nD τ sig) : owe d 0 g () = ∑ x : Xfer, if kcell (nxt d, rcv x) = g then N else 0 := by
  have e : from' 0 = Finset.univ := Finset.filter_true_of_mem fun _ _ => Nat.zero_le _
  unfold owe
  rw [e, Finset.sum_apply, Finsupp.finset_sum_apply]
  refine Finset.sum_congr rfl fun x _ => ?_
  by_cases h : kcell (nxt d, rcv x) = g
  · rw [if_pos h, ← h, tallyAt_apply, if_pos ⟨rfl, rfl⟩]
  · rw [if_neg h, tallyAt_ne_cell (fun e => h e.symm)]; rfl

theorem owe₀_bar (d c : Dev nD) : owe₀ d (kcell (c, none)) () = if d = nxt c then 1 else 0 := by
  unfold owe₀
  rw [Pi.add_apply, Finsupp.add_apply, owe_at, Finset.sum_eq_zero fun x _ => if_neg fun h => by
    exact nomatch (congrArg Prod.snd (kcell_injective h) : rcv x = none), Nat.zero_add]
  by_cases h : d = nxt c
  · rw [if_pos h, h, prv_nxt, tallyAt_apply, if_pos ⟨rfl, rfl⟩]
  · rw [if_neg h, tallyAt_ne_cell (fun e => h (prv_eq_iff.mp (congrArg Prod.fst (kcell_injective e)).symm))]; rfl

theorem owe₀_rcv (d c : Dev nD) (x : Xfer) : owe₀ d (kcell (c, rcv x)) () = if d = prv c then N else 0 := by
  unfold owe₀
  rw [Pi.add_apply, Finsupp.add_apply, tallyAt_ne_cell (fun e => by exact nomatch (congrArg Prod.snd (kcell_injective e) : rcv x = none)),
    Finsupp.zero_apply, Nat.add_zero, owe_at]
  by_cases h : d = prv c
  · subst h
    rw [if_pos rfl, nxt_prv, Finset.sum_eq_single x (fun y _ hy => if_neg fun e => hy ?_) (fun h => absurd (Finset.mem_univ x) h), if_pos rfl]
    have e2 : rcv y = rcv x := congrArg Prod.snd (kcell_injective e)
    exact congrArg Prod.snd (Option.some.inj e2)
  · rw [if_neg h]
    exact Finset.sum_eq_zero fun y _ => if_neg fun e => h (nxt_eq_iff.mp (congrArg Prod.fst (kcell_injective e)))

theorem launch_bar (c : Dev nD) : tallyOn (kcell (c, none)) (launchCredit (Pipeline.owing owe₀) 0 (kcell (c, none)))
    = (tallyAt (kcell (c, none)) () 1 : CellTallies nD τ sig Unit) := by
  unfold tallyAt; refine congrArg _ (Finsupp.ext fun u => ?_); cases u
  rw [Pipeline.launchCredit_owing, Finsupp.single_eq_same, Finset.sum_congr rfl fun d _ => owe₀_bar d c,
    Finset.sum_ite_eq' Finset.univ (nxt c) fun _ => 1, if_pos (Finset.mem_univ _)]

theorem launch_rcv (c : Dev nD) (x : Xfer) : tallyOn (kcell (c, rcv x)) (launchCredit (Pipeline.owing owe₀) 0 (kcell (c, rcv x)))
    = (tallyAt (kcell (c, rcv x)) () N : CellTallies nD τ sig Unit) := by
  unfold tallyAt; refine congrArg _ (Finsupp.ext fun u => ?_); cases u
  rw [Pipeline.launchCredit_owing, Finsupp.single_eq_same, Finset.sum_congr rfl fun d _ => owe₀_rcv d c x,
    Finset.sum_ite_eq' Finset.univ (prv c) fun _ => N, if_pos (Finset.mem_univ _)]

/-- Device `c`'s credits: one at its barrier, a landed block at each receive cell. -/
theorem creds (c : Dev nD) : (Pipeline.launchCred owe₀ c : sProp 𝕄)
    ⊢ iprop(cred (tallyAt (kcell (c, none)) () 1) ∗ bigSep Finset.univ fun x : Xfer => cred (tallyAt (kcell (c, rcv x)) () N)) := by
  unfold Pipeline.launchCred
  refine (bigSep_subset (Finset.subset_univ (Finset.univ.map ⟨csem, csem_injective⟩))).trans ?_
  rw [bigSep_map, bigSep_cell]
  exact sep_mono (Entails.of_eq (congrArg cred (launch_bar c)))
    (sep_elim_right.trans (bigSep_mono fun x _ => Entails.of_eq (congrArg cred (launch_rcv c x))))

/-- Tokens, positions and credits put together into the transfers' kits. -/
theorem kits_all (c : Dev nD) :
    iprop(bigSep Finset.univ (fun x : Xfer => dutyTok ER (kcell (c, snd x)) 0 ()) ∗ bigSep Finset.univ (fun x : Xfer => dutyTok ER (kcell (nxt c, rcv x)) 0 ())
        ∗ bigSep Finset.univ (fun x : Xfer => atPos ER (kcell (c, snd x)) 0 ∅ 0) ∗ bigSep Finset.univ (fun x : Xfer => atPos ER (kcell (c, rcv x)) 0 ∅ 0)
        ∗ bigSep Finset.univ (fun x : Xfer => cred (tallyAt (kcell (c, rcv x)) () N)))
      = (iprop(kits c false 0 ∗ kits c true 0) : sProp 𝕄) := by
  rw [← bigSep_sep', ← bigSep_sep', ← bigSep_sep', ← bigSep_sep']; exact bigSep_xfer fun x => kit c x

end Cert.Ring

end
-- ==== Proof.Launch.lean ====
/-
  The launch: the body's obligation to the pipeline library, the launch theorem's side conditions, and the run of the whole program with
  every array's final contents.
-/
module

public import proofs.«01_k».proof.Proof.Deal
public import Idealize.ShloMosaic.Lib.Pipeline.CollectiveSegs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-! ## The arguments as the windows fetch them -/

def xIn (c : Dev nD) : Vec F S1x1024x1024 .f32 := (win0_0.blk (0 : Fin 1)).view.read (Elt F) ((s₀ m ρ).mem ((c : Thread nD τ).loc main_arg0))
def bIn (c : Dev nD) : Vec F S1024x1024 .f32 := (win0_1.blk (0 : Fin 1)).view.read (Elt F) ((s₀ m ρ).mem ((c : Thread nD τ).loc main_arg1))
def gIn (c : Dev nD) : Vec F S1024 .f32 := (win0_2.blk (0 : Fin 1)).view.read (Elt F) ((s₀ m ρ).mem ((c : Thread nD τ).loc main_arg2))
/-- What every device's output staging buffer holds in the end. -/
def yOut : Vec F S1024x1024 .f32 := outF (xIn m ρ) (bIn m ρ) (gIn m ρ)

/-! ## The proof data -/

theorem cfg0_N : cfg0.N = 1 := by decide
abbrev t₀ : Fin cfg0.N := ⟨0, by decide⟩
theorem fin_N (t : Fin cfg0.N) : t = t₀ := by
  have h := t.isLt
  have e := cfg0_N
  exact Fin.ext (show t.val = 0 by omega)

/-- What device `c` holds when the region begins, but for the scratch buffers. -/
def entry (c : Dev nD) : sProp 𝕄 :=
  iprop(held (xIn m ρ) (bIn m ρ) (gIn m ρ) c
    ∗ (cred (tallyAt (kcell (c, none)) () 1) ∗ bigSep Finset.univ fun x : Xfer => cred (tallyAt (kcell (c, rcv x)) () N)) ∗ levAts L lv)
/-- The same with the scratch buffers. -/
def Φ₀ (c : Dev nD) : sProp 𝕄 := iprop(entry m ρ c ∗ rvAny (F := F) c 0 31 ∗ sdAny (F := F) c 0 31)
/-- What it holds when the region ends. -/
def Φ₁ (c : Dev nD) : sProp 𝕄 :=
  iprop(sdAny (F := F) c 0 31 ∗ rvAny (F := F) c 0 31 ∗ (closeds (F := F) c false 31 ∗ closeds (F := F) c true 31) ∗ semVal (kcell (c, none)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => bIn m ρ c
    | ⟨2, _⟩ => gIn m ρ c
    | ⟨3, _⟩ => yOut m ρ
  Φ t := match t with | ⟨0, _⟩ => Φ₀ m ρ c | ⟨_ + 1, _⟩ => Φ₁ (F := F) c
  q _ := fullShare
  owed t := match t with | ⟨0, _⟩ => owe₀ c | ⟨_ + 1, _⟩ => 0

/-! ## The body's obligation -/

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

/-- Device `c`'s staging buffer `b`, holding `v`. -/
abbrev stg (c : Dev nD) (b : Ref sig .tc) (v : Buf (Elt F) ((c : Thread nD τ).loc b)) : sProp 𝕄 :=
  iprop(∃ f, ⌜f = v⌝ ∗ ((c : Thread nD τ).loc b) ↦{fullShare} f)

theorem owns_whole (c : Dev nD) (b : Ref sig .tc) (v : Buf (Elt F) ((c : Thread nD τ).loc b)) :
    (owns (c : Thread nD τ) (Memref.whole b) fullShare v : sProp 𝕄) = stg c b v := by
  unfold owns; simp only [Memref.view_whole, View.read_whole, View.set_whole]

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))

set_option maxRecDepth 4000 in
def bodyPost (c : Dev nD) : sProp 𝕄 :=
  iprop(Φ₁ (F := F) c ∗ (dats m ρ 0 c).owesAt () t₀.succ
    ∗ stg c cc0_stg0_0 (xIn m ρ c) ∗ stg c cc0_stg1_0 (bIn m ρ c) ∗ stg c cc0_stg2_0 (gIn m ρ c) ∗ stg c cc0_stg3_0 (yOut m ρ))

set_option maxRecDepth 4000 in
theorem bodyPre_start (c : Dev nD) : bodyPre m ρ c ⊢ iprop(∃ K W, start (xIn m ρ) (bIn m ρ) (gIn m ρ) K c W) := by
  unfold bodyPre Φ₀ entry held places pays start
  iintro ⟨⟨⟨⟨%K, #Hrec, ⟨HatB, HatS, HatR⟩, HtB, HtS, HtR⟩, ⟨HcB, HcR⟩, #Hlev⟩, Hrv, Hsd⟩, Ho, ⟨%d0, %f0, %h0, Hx⟩, ⟨%d1, %f1, %h1, Hb⟩, ⟨%d2, %f2, %h2, Hg⟩, ⟨%d3, %f3, %h3, Hy⟩⟩
  have e0 : f0 = xIn m ρ c := by rw [h0]; unfold Dat.before; rw [if_pos (fetch_0 t₀)]; rfl
  have e1 : f1 = bIn m ρ c := by rw [h1]; unfold Dat.before; rw [if_pos (fetch_1 t₀)]; rfl
  have e2 : f2 = gIn m ρ c := by rw [h2]; unfold Dat.before; rw [if_pos (fetch_2 t₀)]; rfl
  subst e0 e1 e2
  unfold Dat.owesAt Pipeline.owesWithin
  icases Ho with ⟨%W, %hW, HO⟩
  rw [show (dats m ρ 0 c).owed t₀.castSucc = owe₀ c from rfl]
  icases (Entails.of_eq (kits_all (F := F) c)) $$ [HtS HtR HatS HatR HcR] with ⟨Hk0, Hk1⟩
  · isplitl [HtS]; · iexact HtS
    isplitl [HtR]; · iexact HtR
    isplitl [HatS]; · iexact HatS
    isplitl [HatR] <;> iassumption
  iexists K; iexists W
  isplitr; · iexact Hrec
  isplitr; · iexact Hlev
  isplitl [HO]; · iexact HO
  isplitl [HtB]; · iexact HtB
  isplitl [HatB]; · iexact HatB
  isplitl [HcB]; · iexact HcB
  isplitl [Hk0]; · iexact Hk0
  isplitl [Hk1]; · iexact Hk1
  isplitl [Hrv]; · iexact Hrv
  isplitl [Hsd]; · iexact Hsd
  isplitl [Hx]; · iexact Hx
  isplitl [Hb]; · iexact Hb
  isplitl [Hg]; · iexact Hg
  iexists f3; iexact Hy

set_option maxRecDepth 4000 in
theorem finish_bodyPost (c : Dev nD) : finish (xIn m ρ) (bIn m ρ) (gIn m ρ) c ⊢ bodyPost m ρ c := by
  unfold finish rest bodyPost Φ₁ ow Dat.owesAt Pipeline.owesWithin
  rw [show (dats m ρ 0 c).owed t₀.succ = 0 from rfl, owe_end]
  iintro ⟨⟨%W, HO⟩, ⟨Hx, Hb, Hg, Hsd, Hrv, Hc0⟩, Hc1, Hz, Hy⟩
  isplitl [Hsd Hrv Hc0 Hc1 Hz]
  · isplitl [Hsd]; · iexact Hsd
    isplitl [Hrv]; · iexact Hrv
    isplitl [Hc0 Hc1]
    · isplitl [Hc0] <;> iassumption
    iexact Hz
  isplitl [HO]
  · iexists W
    isplitr; · ipureintro; exact fun _ _ => Or.inl trivial
    iexact HO
  isplitl [Hx]
  · iexists _; isplitr; · (ipureintro; rfl)
    iexact Hx
  isplitl [Hb]
  · iexists _; isplitr; · (ipureintro; rfl)
    iexact Hb
  isplitl [Hg]
  · iexists _; isplitr; · (ipureintro; rfl)
    iexact Hg
  iexists _; isplitr; · (ipureintro; rfl)
  iexact Hy

set_option maxRecDepth 40000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole]
  show bodyPre m ρ c ⊢ wp frame (wpE (defs₀ (F := F)) 𝒱₀ c none) Set.univ
    (cc0_body (F := F) xM (Memref.isWhole_whole _) bM (Memref.isWhole_whole _) gM (Memref.isWhole_whole _) oM (Memref.isWhole_whole _)
      rvM (Memref.isWhole_whole _) sdM (Memref.isWhole_whole _) cc0_scratch2 cc0_scratch3 cc0_scratch4 cc0_scratch5) (fun _ => bodyPost m ρ c)
  rw [body_eq, wp_deviceId]
  refine (bodyPre_start m ρ c).trans ?_
  iintro ⟨%K, %W, H⟩
  iapply (body_run (xIn m ρ) (bIn m ρ) (gIn m ρ) K c W (Q := fun _ => bodyPost m ρ c))
  isplitl [H]; · iexact H
  iintro H; iapply (finish_bodyPost m ρ c); iexact H

/-! ## The launch theorem's side conditions -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

theorem entry_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ held (xIn m ρ) (bIn m ρ) (gIn m ρ) c)
      ⊢ |={Set.univ}=> iprop(entry m ρ c ∗ emp) := by
  iintro ⟨-, Hlev, Hcr, -, HG⟩
  ihave Hc := (creds (F := F) c) $$ Hcr
  imodintro
  unfold entry
  isplitl
  · isplitl [HG]; · iexact HG
    isplitl [Hc]; · iexact Hc
    iexact Hlev
  · iempintro

theorem scratch_in (c : Dev nD) : (Pipeline.scopedRest (Ix := Unit) (Name := ℕ) (U := UU) (Lvl := ℕ) (Val := Elt F) spec0 c : sProp 𝕄)
    = iprop(rvAny (F := F) c 0 31 ∗ sdAny (F := F) c 0 31) := by
  rw [scopedRest0_eq]; unfold rvAny sdAny; rw [sset_all]; rfl

theorem phi0_intro (c : Dev nD) :
    iprop(entry m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (Entails.of_eq (scratch_in (F := F) c)); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_bar, ← closeds_own]
  unfold Φ₁
  iintro ⟨Hsd, Hrv, Hc, Hz⟩
  isplitl [Hz]; · iexact Hz
  isplitl [Hc]; · iexact Hc
  iapply (Entails.of_eq (scratch_in (F := F) c).symm)
  isplitl [Hrv] <;> iassumption

/-- The staging semaphores lie below every cell of the ring. -/
theorem stage_low : ∀ (w : Fin 4) (s : Fin (spec0 w).nbuf), height (decode (.dma ((spec0 w).sem s))) = 0 := by decide +kernel

theorem waits (c : Dev nD) : (levAts L lv : sProp 𝕄) ⊢ Pipeline.cellsWaits cfgs (dats m ρ) () 0 c :=
  Pipeline.cellsWaits_intro cfgs (dats m ρ) () 0 c fun w s t => mayWait_stage c _ (stage_low w s) _ (by
    rcases t with ⟨_ | _, ht⟩
    · exact Or.inl rfl
    · exact Or.inr rfl)

/-! ## The run -/

/-- Array `w`'s contents on device `c` in the end. -/
def finalA (c : Dev nD) (w : Fin cfg0.W) := (dats m ρ 0 c).arrAt w cfg0.N

/-- The program runs, without undefined behaviour, to a state with these contents and every semaphore at zero. -/
def QC (r : PUnit × MemSt nD τ sig (Elt F)) : Prop := ∀ (c : Dev nD) (w : Fin cfg0.W), r.2.mem ((cfg0.win w).arr.view.loc (c : Thread nD τ)) = finalA m ρ c w

set_option maxRecDepth 40000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl) (hbody := body_obligation m ρ) (hne := fun w => by fin_cases w <;> exact Nat.succ_pos _) (harr := arr_whole0) (hstage := stage_whole0) (hshare := share_eq m ρ)
    (hdistinct := winFacts0.arr_inj) (O₀ := owe₀) (howed₀ := fun _ => rfl) (howedN := fun _ => rfl)
    (L := L) (lv := lv) (hL := L_of_ne) (hwaits := waits m ρ)
    (G := dealt (xIn m ρ) (bIn m ρ) (gIn m ρ)) (G' := held (xIn m ρ) (bIn m ρ) (gIn m ρ)) (u₀ := u₀)
    (hu₀ := by
      unfold u₀
      iintro Hu
      ihave H := (ownU_pair _ _) $$ Hu
      icases H with ⟨HP, HX⟩
      imod (fund_ring (xIn m ρ) (bIn m ρ) (gIn m ρ)) $$ HX with HG
      imodintro
      isplitl [HP] <;> iassumption)
    (hglob := glob (xIn m ρ) (bIn m ρ) (gIn m ρ)) (hA := fun _ _ => rfl) (hpf := fun _ k => k.elim0)
    (X := entry m ρ) (Y := fun c => unscopedSems0 c) (Z := fun _ => iprop(emp))
    (hX := entry_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Value.lean ====
/-
  The value in exact arithmetic: what the kernel leaves in the output array is, at every index, the sum of the devices' blocks
  plus the residual, over its row's root mean square, times `gamma` — as the reference has it.
-/
module

public import proofs.«01_k».proof.Proof.Launch
public import proofs.«01_k».proof.Proof.Gen.ReferenceIdeal.Run
public import Idealize.ShloMosaic.Lib.Pointwise
public import Idealize.ShloMosaic.Lib.Layout

@[expose] public section

noncomputable section

namespace Cert.Ring

open Idealize.ShloMosaic Idealize.SL.Sem

section

open Cert.KernelIdeal Cert.KernelIdeal.Gen

/-! ## The ring's sum -/

/-- The device `t` places below `c`. -/
def back (c : Dev nD) (t : ℕ) : Dev nD := ⟨(c.val + (32 - t)) % 32, Nat.mod_lt _ (by decide)⟩

/-- No place below `c` is `c`. -/
theorem back_zero (c : Dev nD) : back c 0 = c := Fin.ext (by have h : c.val < 32 := c.isLt; show (c.val + (32 - 0)) % 32 = c.val; omega)
/-- Counting from the left neighbour starts one place further down. -/
theorem back_prv (c : Dev nD) (t : ℕ) (h : t < 32) : back (prv c) t = back c (t + 1) :=
  Fin.ext (by show ((c.val + 31) % 32 + (32 - t)) % 32 = (c.val + (32 - (t + 1))) % 32; omega)

/-- Transfer `n` carries the sum over the `n + 1` devices ending at the sender. -/
theorem sent_sum (X : Dev nD → Vec Ideal S1x1024x1024 .f32) (n : ℕ) : ∀ (_ : n ≤ 31) (c : Dev nD) (j : S32x1024.Idx),
    (sent X n c j : EReal) = ∑ t ∈ Finset.range (n + 1), (xrow (X (back c t)) (below c n) j : EReal) := by
  induction n with
  | zero =>
    intro _ c j
    have h' : below c 0 = c := back_zero c
    rw [Finset.sum_range_one, back_zero, h']
    rfl
  | succ n ih =>
    intro hn c j
    have hb : below (prv c) n = below c (n + 1) := back_prv c n (by omega)
    have e : (sent X (n + 1) c j : EReal) = (sent X n (prv c) j : EReal) + (xrow (X c) (below c (n + 1)) j : EReal) := rfl
    rw [e, ih (by omega) (prv c) j, hb, Finset.sum_range_succ' _ (n + 1), back_zero]
    refine congrArg (· + _) (Finset.sum_congr rfl fun t ht => ?_)
    rw [back_prv c t (by have := Finset.mem_range.1 ht; omega)]

/-- Counting down around the ring meets every device once. -/
theorem sum_back (f : Dev nD → EReal) (c : Dev nD) : ∑ t ∈ Finset.range 32, f (back c t) = ∑ d : Fin 32, f d := by
  rw [Finset.sum_range]
  have inj : Function.Injective fun t : Fin 32 => back c t.val := fun a b h => by
    have h := congrArg Fin.val h
    have h : (c.val + (32 - a.val)) % 32 = (c.val + (32 - b.val)) % 32 := h
    have := a.isLt; have := b.isLt
    exact Fin.ext (by omega)
  exact (Finite.injective_iff_bijective.1 inj).sum_comp f

/-- What device `c` receives last, with its own rows added, is the sum over all the devices of the chunk it owns. -/
theorem own_sum (X : Dev nD → Vec Ideal S1x1024x1024 .f32) (c : Dev nD) (j : S32x1024.Idx) :
    (sent X 30 (prv c) j : EReal) + (xrow (X c) (below c 31) j : EReal) = ∑ d : Fin 32, (xrow (X d) (below c 31) j : EReal) :=
  (sent_sum X 31 le_rfl c j).trans (sum_back (fun d => (xrow (X d) (below c 31) j : EReal)) c)

/-! ## The two programs' arithmetic at an index -/

/-- A row `y` over its root mean square, times `g`, at `l`. -/
def scaled (y : Fin 1024 → EReal) (g : EReal) (l : Fin 1024) : EReal :=
  Ideal.div (y l) (Ideal.sqrt (Ideal.div (∑ k : Fin 1024, y k * y k) (Ideal.ofBits .f32 0x44800000#32) + Ideal.ofBits .f32 0x358637BD#32)) * g

/-- What the kernel computes from the values it loads. -/
theorem pay_apply (v w : Vec Ideal S1x32x1024 .f32) (b : Vec Ideal S32x1024 .f32) (g : Vec Ideal S1024 .f32) (r : Fin 32) (l : Fin 1024) :
    k0_pay39 (k0_pay38 v w b) g (ix2 r l)
      = scaled (fun k => (v (ix3 0 r k) : EReal) + w (ix3 0 r k) + b (ix2 r k)) (g (ix1 l)) l := by
  pointwise [k0_pay38, k0_pay39]
  rfl

end

section

open Cert.ReferenceIdeal Cert.ReferenceIdeal.Gen

/-- What the reference computes from its arguments. -/
def refOut (a : Vec Ideal S32x1024x1024 .f32) (b : Vec Ideal S1024x1024 .f32)
    (g : Vec Ideal S1024 .f32) : Vec Ideal S1024x1024 .f32 := fun i =>
  scaled (fun k => (∑ d : Fin 32, (a (ix3 d (i 0) k) : EReal)) + b (ix2 (i 0) k)) (g (ix1 (i 1))) (i 1)

/-- The reference's operations, read at an index. -/
theorem ref_apply (a : Vec Ideal S32x1024x1024 .f32) (b : Vec Ideal S1024x1024 .f32) (g : Vec Ideal S1024 .f32) :
    (let y : FVec Ideal S1024x1024 .f32 := addf (Host.reduceAdd a (constant S_ .f32 0x00000000#32) reducesTo_S32x1024x1024_S1024x1024_d0 h_S_) b
     mulf (Host.divf y (broadcastInDim S1024x1024 ![0, 1] bcast_S1024x1_S1024x1024_0_1 (Host.sqrt (addf
        (Host.divf (broadcastInDim S1024x1 ![0] bcast_S1024_S1024x1_0 (Host.reduceAdd (mulf y y) (constant S_ .f32 0x00000000#32) reducesTo_S1024x1024_S1024_d1 h_S_))
          (broadcastInDim S1024x1 ![] bcast_S_S1024x1 (constant S_ .f32 0x44800000#32)))
        (broadcastInDim S1024x1 ![] bcast_S_S1024x1 (constant S_ .f32 0x358637BD#32))))))
      (broadcastInDim S1024x1024 ![0, 1] bcast_S1x1024_S1024x1024_0_1 (broadcastInDim S1x1024 ![1] bcast_S1024_S1x1024_1 g))) = refOut a b g := by
  funext i
  dsimp only [refOut, scaled]
  pointwise

end

section

open Cert.KernelIdeal Cert.KernelIdeal.Gen

/-! ## The kernel's output -/

/-- Reading the device's own rows of `resid`. -/
theorem bread (c : Dev nD) (b : Vec Ideal S1024x1024 .f32) (r : Fin 32) (l : Fin 1024) :
    bM.view.readAt (Elt Ideal) (own c).toLoadRect b (ix2 r l)
      = b (ix2 ⟨32 * ((c.val + 1) % 32) + r.val, by have := r.isLt; omega⟩ l) := by
  refine congrArg b (funext fun a => Fin.ext ?_)
  refine (ValueKit.view_emb_slice_whole_unit_val cc0_stg1_0 _ _ (k0_off4_inb c) (ix2 r l) a).trans ?_
  refine (congrArg (· + (ix2 r l a).val) (congrFun (off4_eq c) a)).trans ?_
  match a with
  | ⟨0, _⟩ => rfl
  | ⟨1, _⟩ => exact Nat.zero_add _

/-- Reading `gamma`. -/
theorem gread (g : Vec Ideal S1024 .f32) (l : Fin 1024) :
    gM.view.readAt (Elt Ideal) (Rect.unit (s := S1024) ![0] S1024.size inb_S1024_S1024_0).toLoadRect g (ix1 l) = g (ix1 l) := by
  refine congrArg g (funext fun a => Fin.ext ?_)
  refine (ValueKit.view_emb_slice_whole_unit_val cc0_stg2_0 _ _ inb_S1024_S1024_0 (ix1 l) a).trans ?_
  match a with
  | ⟨0, _⟩ => exact Nat.zero_add _

/-- The whole output, at an index. -/
theorem out_apply (X : Dev nD → Vec Ideal S1x1024x1024 .f32) (B : Dev nD → Vec Ideal S1024x1024 .f32) (G : Dev nD → Vec Ideal S1024 .f32)
    (i : S1024x1024.Idx) : outF X B G i
      = scaled (fun k => (∑ d : Fin 32, (X d (ix3 0 (i 0) k) : EReal)) + B (maker i) (ix2 (i 0) k)) (G (maker i) (ix1 (i 1))) (i 1) := by
  have hi : (i 0).val < 1024 := (i 0).isLt
  have hm : ((maker i).val + 1) % 32 = (i 0).val / 32 := by show (((i 0).val / 32 + 31) % 32 + 1) % 32 = (i 0).val / 32; omega
  have hk : (below (maker i) 31).val = (i 0).val / 32 := hm
  have hr : ∀ k : Fin 1024, (ix2 ⟨32 * (((maker i).val + 1) % 32) + (i 0).val % 32, by omega⟩ k : S1024x1024.Idx) = ix2 (i 0) k := fun k =>
    congrArg (ix2 · k) (Fin.ext (by dsimp only; omega))
  refine (congrArg (outRow X B G (maker i)) (ix2_eq_valueIdx _ _).symm).trans ?_
  refine (pay_apply _ _ _ _ _ _).trans ?_
  refine (congrArg (fun g => scaled _ g (i 1)) (gread _ (i 1))).trans ?_
  refine congrArg (fun y => scaled y (G (maker i) (ix1 (i 1))) (i 1)) (funext fun k => ?_)
  refine congrArg₂ (· + ·) ?_ ((bread _ _ _ _).trans (congrArg (B (maker i)) (hr k)))
  rw [spread_read, xread (F := Ideal) (below (maker i) 31) _ (off3_eq _)]
  refine (own_sum X (maker i) _).trans (Finset.sum_congr rfl fun d _ => congrArg (X d) (funext fun a => Fin.ext ?_))
  match a with
  | ⟨0, _⟩ => rfl
  | ⟨1, _⟩ => show 32 * (below (maker i) 31).val + (i 0).val % 32 = (i 0).val; omega
  | ⟨2, _⟩ => rfl

/-! ## The arrays of a run -/

variable (m : (ℓ : Loc nD τ sig) → Buf (Elt Ideal) ℓ) (ρ : Dev nD → PrngReg)

/-- The window's block of `partial` is the whole array. -/
theorem xIn_eq (c : Dev nD) : xIn m ρ c = m ((c.tc : Thread nD τ).loc main_arg0) := by
  refine funext fun j => congrArg (m ((c.tc : Thread nD τ).loc main_arg0)) (funext fun a => Fin.ext ?_)
  blk_simp
  have h : ∀ a, win0_0.index (0 : Fin 1) a = 0 := by decide
  exact (congrArg (· * _ + _) (h a)).trans (by rw [Nat.zero_mul, Nat.zero_add])
/-- So is that of `resid`. -/
theorem bIn_eq (c : Dev nD) : bIn m ρ c = m ((c.tc : Thread nD τ).loc main_arg1) := by
  refine funext fun j => congrArg (m ((c.tc : Thread nD τ).loc main_arg1)) (funext fun a => Fin.ext ?_)
  blk_simp
  have h : ∀ a, win0_1.index (0 : Fin 1) a = 0 := by decide
  exact (congrArg (· * _ + _) (h a)).trans (by rw [Nat.zero_mul, Nat.zero_add])
/-- So is that of `gamma`. -/
theorem gIn_eq (c : Dev nD) : gIn m ρ c = m ((c.tc : Thread nD τ).loc main_arg2) := by
  refine funext fun j => congrArg (m ((c.tc : Thread nD τ).loc main_arg2)) (funext fun a => Fin.ext ?_)
  blk_simp
  have h : ∀ a, win0_2.index (0 : Fin 1) a = 0 := by decide
  exact (congrArg (· * _ + _) (h a)).trans (by rw [Nat.zero_mul, Nat.zero_add])

/-- The output array after the run holds what every device's output staging buffer holds in the end. -/
theorem finalA_out (c : Dev nD) : finalA m ρ c 3 = yOut m ρ := by
  refine (dats m ρ 0 c).arrAt_eq_of_after_last 3 t₀ (by decide +kernel) _ fun j => ?_
  blk_simp
  rfl

/-- With the reference's arguments laid out over the devices, it holds what the reference computes. -/
theorem yOut_eq (a : Vec Ideal Cert.ReferenceIdeal.S32x1024x1024 .f32) (b : Vec Ideal S1024x1024 .f32) (g : Vec Ideal S1024 .f32)
    (ha : ∀ c : Dev nD, m ((c.tc : Thread nD τ).loc main_arg0) = Layout.block ⟨3, ![1, 1024, 1024]⟩ ⟨3, ![32, 1024, 1024]⟩ 0 32 c a)
    (hb : ∀ c : Dev nD, m ((c.tc : Thread nD τ).loc main_arg1) = b) (hg : ∀ c : Dev nD, m ((c.tc : Thread nD τ).loc main_arg2) = g) :
    yOut m ρ = refOut a b g := by
  funext i
  refine (out_apply _ _ _ i).trans ?_
  rw [bIn_eq, gIn_eq, hb, hg]
  refine congrArg (fun y => scaled y (g (ix1 (i 1))) (i 1)) (funext fun k => congrArg (· + b (ix2 (i 0) k)) ?_)
  refine Finset.sum_congr rfl fun d _ => ?_
  rw [xIn_eq, ha]
  refine congrArg a (funext fun x => Fin.ext ?_)
  match x with
  | ⟨0, _⟩ => show d.val * 1 + 0 = d.val; omega
  | ⟨1, _⟩ => rfl
  | ⟨2, _⟩ => rfl

end

end Cert.Ring

end
-- ==== Proof.lean ====
/-
  The proof of `Cert.Claim`.
-/
module

public import proofs.«01_k».proof.Defs
public import proofs.«01_k».proof.Proof.Gen.Kernel
public import proofs.«01_k».proof.Proof.Gen.ReferenceIdeal.Run
public import proofs.«01_k».proof.Proof.Value

@[expose] public section

noncomputable section

namespace Cert.Proof

open Idealize.ShloMosaic Idealize.SL.Sem

section

open Cert.KernelIdeal

variable {F : FTy → Type} [FloatOps F] (m : (ℓ : Loc nD τ sig) → Buf (Elt F) ℓ) (ρ : Dev nD → PrngReg)

/-- In a state the run ends in the arguments are as they were. -/
theorem kept {r : PUnit × MemSt nD τ sig (Elt F)} (h : Cert.Ring.QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h c 0).trans ((Cert.Ring.dats m ρ 0 c).arrAt_in 0 rfl _), (h c 1).trans ((Cert.Ring.dats m ρ 0 c).arrAt_in 1 rfl _),
    (h c 2).trans ((Cert.Ring.dats m ρ 0 c).arrAt_in 2 rfl _)⟩

/-- At any floats the idealized kernel's program runs and ends quiescent with its arguments unchanged. -/
theorem frame_any : θ_run (defs (F := F)) (onTc (τ := τ) main) ⟨m, fun _ => 0, ρ⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => kept m ρ h.1 c, h.2⟩) (Cert.Ring.run_main m ρ)

end

set_option maxRecDepth 40000 in
/-- The kernel's body table is its idealization's. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (_, _) => rfl
  | ⟨_ + 1, h⟩, _ => exact absurd h (Nat.not_lt.2 (Nat.le_add_left _ _))

theorem defs_eq {F : FTy → Type} [FloatOps F] : Cert.Kernel.defs (F := F) = Cert.KernelIdeal.defs (F := F) := by
  unfold Cert.Kernel.defs Cert.KernelIdeal.defs
  rw [defs₀_eq]; rfl

/-- The kernel as printed runs, at the machine's floats, and ends quiescent with its arguments unchanged. -/
theorem frame_kernel : Cert.quiescent_Kernel := fun m ρ _ => by
  have h := frame_any (F := Bits) m ρ
  rw [← defs_eq] at h
  exact h

/-- So does its idealization, in exact arithmetic. -/
theorem frame_kernelIdeal : Cert.quiescent_KernelIdeal := fun m ρ _ => frame_any (F := Ideal) m ρ

/-- The reference is a line of host operations and has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization rewrote nothing. -/
theorem preserves : Cert.preserves_Kernel_KernelIdeal := trivial

/-- In exact arithmetic, from the reference's arguments laid out over the devices, every device ends with the reference's result. -/
theorem algebraic : Cert.algebraic_KernelIdeal_ReferenceIdeal := fun m ρ m' ρ' _ h =>
  ⟨_, (θ_run Cert.KernelIdeal.defs _ _).mono (fun r hr c => ⟨((hr.1 c 3).trans (Cert.Ring.finalA_out m ρ c)).trans
      (Cert.Ring.yOut_eq m ρ _ _ _ (fun c => (h c).1) (fun c => (h c).2.1) (fun c => (h c).2.2)), kept m ρ hr.1 c⟩)
      (Cert.Ring.run_main (F := Ideal) m ρ),
    (θ_run Cert.ReferenceIdeal.defs _ _).mono (fun r hr => ⟨(hr 0).1.trans (Cert.Ring.ref_apply _ _ _), (hr 0).2⟩)
      (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
